-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cache_is_finite [hPre_cache_is_finite : Cert.Pre_cache_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.1 = (fun _ => 1#1)
    ∧ (Cert.Pre_cache_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cache_is_finite [hPre_cache_is_finite : Cert.Pre_cache_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.1 = (fun _ => 1#1)
    ∧ (Cert.Pre_cache_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_cache_is_finite [hKernelIdeal : Cert.KernelIdeal.Facts] [hPre_cache_is_finite : Cert.Pre_cache_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cache_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_cache_is_finite [hReferenceIdeal : Cert.ReferenceIdeal.Facts] [hPre_cache_is_finite : Cert.Pre_cache_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cache_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_cache_is_finite [hKernelIdeal : Cert.KernelIdeal.Facts] [hReferenceIdeal : Cert.ReferenceIdeal.Facts] [hPre_cache_is_finite : Cert.Pre_cache_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cache_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_cache_is_finite : Cert.Pre_cache_is_finite.Facts),
    quiescent_Kernel (hKernel := hKernel)
    ∧ quiescent_KernelIdeal (hKernelIdeal := hKernelIdeal)
    ∧ quiescent_KernelIdeal_pre_cache_is_finite (hKernelIdeal := hKernelIdeal) (hPre_cache_is_finite := hPre_cache_is_finite)
    ∧ quiescent_ReferenceIdeal (hReferenceIdeal := hReferenceIdeal)
    ∧ quiescent_ReferenceIdeal_pre_cache_is_finite (hReferenceIdeal := hReferenceIdeal) (hPre_cache_is_finite := hPre_cache_is_finite)
    ∧ preserves_Kernel_KernelIdeal
    ∧ algebraic_KernelIdeal_ReferenceIdeal_pre_cache_is_finite (hKernelIdeal := hKernelIdeal) (hReferenceIdeal := hReferenceIdeal) (hPre_cache_is_finite := hPre_cache_is_finite)
-- ==== Pre_cache_is_finite.lean ====
abbrev S5x1x65536 : Shape := ⟨3, ![5, 1, 65536]⟩
abbrev S5x1x128x64 : Shape := ⟨4, ![5, 1, 128, 64]⟩
abbrev S5x131072x656 : Shape := ⟨3, ![5, 131072, 656]⟩
abbrev S5 : Shape := ⟨1, ![5]⟩
abbrev S5x1x512 : Shape := ⟨3, ![5, 1, 512]⟩
abbrev S5x1x4 : Shape := ⟨3, ![5, 1, 4]⟩
abbrev S5x1x64 : Shape := ⟨3, ![5, 1, 64]⟩
abbrev S131072 : Shape := ⟨1, ![131072]⟩
abbrev S1x131072 : Shape := ⟨2, ![1, 131072]⟩
abbrev S5x1 : Shape := ⟨2, ![5, 1]⟩
abbrev S5x131072 : Shape := ⟨2, ![5, 131072]⟩
abbrev S5x131072x1 : Shape := ⟨3, ![5, 131072, 1]⟩
abbrev S5x131072x16 : Shape := ⟨3, ![5, 131072, 16]⟩
abbrev S5x131072x4x4 : Shape := ⟨4, ![5, 131072, 4, 4]⟩
abbrev S5x131072x4 : Shape := ⟨3, ![5, 131072, 4]⟩
abbrev S5x131072x128 : Shape := ⟨3, ![5, 131072, 128]⟩
abbrev S5x131072x64x2 : Shape := ⟨4, ![5, 131072, 64, 2]⟩
abbrev S5x131072x64 : Shape := ⟨3, ![5, 131072, 64]⟩
abbrev S_ : Shape := ⟨0, ![]⟩
abbrev S5x131072x512 : Shape := ⟨3, ![5, 131072, 512]⟩

class Facts : Prop where
  bcast_S131072_S1x131072_1 : S131072.BroadcastsInDim S1x131072 (![1] : Fin 1 → Fin S1x131072.rank)
  bcast_S5_S5x1_0 : S5.BroadcastsInDim S5x1 (![0] : Fin 1 → Fin S5x1.rank)
  bcast_S1x131072_S5x131072_0_1 : S1x131072.BroadcastsInDim S5x131072 (![0, 1] : Fin 2 → Fin S5x131072.rank)
  bcast_S5x1_S5x131072_0_1 : S5x1.BroadcastsInDim S5x131072 (![0, 1] : Fin 2 → Fin S5x131072.rank)
  bcast_S5x131072_S5x131072x1_0_1 : S5x131072.BroadcastsInDim S5x131072x1 (![0, 1] : Fin 2 → Fin S5x131072x1.rank)
  slices_S5x131072x656_S5x131072x16_0_0_512 : S5x131072x656.Slices ![0, 0, 512] S5x131072x16
  shapeCasts_S5x131072x16_S5x131072x4x4 : S5x131072x16.ShapeCasts S5x131072x4x4
  splits_S5x131072x4_w32_S5x131072x4x4_w8 : S5x131072x4.SplitsWords 32 S5x131072x4x4 8
  slices_S5x131072x656_S5x131072x128_0_0_528 : S5x131072x656.Slices ![0, 0, 528] S5x131072x128
  shapeCasts_S5x131072x128_S5x131072x64x2 : S5x131072x128.ShapeCasts S5x131072x64x2
  splits_S5x131072x64_w16_S5x131072x64x2_w8 : S5x131072x64.SplitsWords 16 S5x131072x64x2 8
  bcast_S_S5x1x65536 : S_.BroadcastsInDim S5x1x65536 (![] : Fin 0 → Fin S5x1x65536.rank)
  bcast_S_S5x1x128x64 : S_.BroadcastsInDim S5x1x128x64 (![] : Fin 0 → Fin S5x1x128x64.rank)
  bcast_S_S5x1x512 : S_.BroadcastsInDim S5x1x512 (![] : Fin 0 → Fin S5x1x512.rank)
  bcast_S_S5x1x4 : S_.BroadcastsInDim S5x1x4 (![] : Fin 0 → Fin S5x1x4.rank)
  bcast_S_S5x1x64 : S_.BroadcastsInDim S5x1x64 (![] : Fin 0 → Fin S5x1x64.rank)
  bcast_S_S5 : S_.BroadcastsInDim S5 (![] : Fin 0 → Fin S5.rank)
  slices_S5x131072x656_S5x131072x512_0_0_0 : S5x131072x656.Slices ![0, 0, 0] S5x131072x512
  bcast_S_S5x131072x512 : S_.BroadcastsInDim S5x131072x512 (![] : Fin 0 → Fin S5x131072x512.rank)
  bcast_S5x131072x1_S5x131072x512_0_1_2 : S5x131072x1.BroadcastsInDim S5x131072x512 (![0, 1, 2] : Fin 3 → Fin S5x131072x512.rank)
  bcast_S_S5x131072x4 : S_.BroadcastsInDim S5x131072x4 (![] : Fin 0 → Fin S5x131072x4.rank)
  bcast_S5x131072x1_S5x131072x4_0_1_2 : S5x131072x1.BroadcastsInDim S5x131072x4 (![0, 1, 2] : Fin 3 → Fin S5x131072x4.rank)
  bcast_S_S5x131072x64 : S_.BroadcastsInDim S5x131072x64 (![] : Fin 0 → Fin S5x131072x64.rank)
  bcast_S5x131072x1_S5x131072x64_0_1_2 : S5x131072x1.BroadcastsInDim S5x131072x64 (![0, 1, 2] : Fin 3 → Fin S5x131072x64.rank)

variable [Facts]

def fn_part2 {F : FTy → Type} [FloatOps F] (main_v6 : IVec S5x131072x1 1) (main_v9 : FVec F S5x131072x4 .f32) (main_v12 : FVec F S5x131072x64 .bf16) (main_v15 : IVec S5x1x65536 1) (main_v18 : IVec S5x1x128x64 1) (main_v23 : IVec S5x1x512 1) (main_v26 : IVec S5x1x4 1) (main_v29 : IVec S5x1x64 1) (main_v31 : IVec S5 1) (main_v37 : IVec S5x131072x512 1) (main_v38 : IVec S5x131072x512 1) : IVec S5x1x65536 1 × IVec S5x1x128x64 1 × IVec S5x1x512 1 × IVec S5x1x4 1 × IVec S5x1x64 1 × IVec S5 1 × IVec S5x131072x512 1 × IVec S5x131072x4 1 × IVec S5x131072x64 1 :=
  let main_v39 : IVec S5x131072x512 1 := ori main_v38 main_v37
  let main_v40 : FVec F S5x131072x4 .f32 := Host.absf main_v9
  let main_cst_7 : FVec F S_ .f32 := constant S_ .f32 0x7F800000#32
  let main_v41 : FVec F S5x131072x4 .f32 := broadcastInDim S5x131072x4 ![] bcast_S_S5x131072x4 main_cst_7
  let main_v42 : IVec S5x131072x4 1 := cmpf .olt main_v40 main_v41
  let main_v43 : IVec S5x131072x4 1 := broadcastInDim S5x131072x4 ![0, 1, 2] bcast_S5x131072x1_S5x131072x4_0_1_2 main_v6
  let main_v44 : IVec S5x131072x4 1 := ori main_v43 main_v42
  let main_v45 : FVec F S5x131072x64 .bf16 := Host.absf main_v12
  let main_cst_8 : FVec F S_ .bf16 := constant S_ .bf16 0x7F80#16
  let main_v46 : FVec F S5x131072x64 .bf16 := broadcastInDim S5x131072x64 ![] bcast_S_S5x131072x64 main_cst_8
  let main_v47 : IVec S5x131072x64 1 := cmpf .olt main_v45 main_v46
  let main_v48 : IVec S5x131072x64 1 := broadcastInDim S5x131072x64 ![0, 1, 2] bcast_S5x131072x1_S5x131072x64_0_1_2 main_v6
  let main_v49 : IVec S5x131072x64 1 := ori main_v48 main_v47
  (main_v15, main_v18, main_v23, main_v26, main_v29, main_v31, main_v39, main_v44, main_v49)

def fn_part1 {F : FTy → Type} [FloatOps F] (main_arg2 : IVec S5x131072x656 8) (main_arg3 : IVec S5 32) (main_arg4 : IVec S5x1x512 8) (main_arg5 : FVec F S5x1x4 .f32) (main_arg6 : FVec F S5x1x64 .bf16) (main_v6 : IVec S5x131072x1 1) (main_v9 : FVec F S5x131072x4 .f32) (main_v12 : FVec F S5x131072x64 .bf16) (main_v15 : IVec S5x1x65536 1) (main_v18 : IVec S5x1x128x64 1) (main_v20 : IVec S5x1x512 1) : IVec S5x1x65536 1 × IVec S5x1x128x64 1 × IVec S5x1x512 1 × IVec S5x1x4 1 × IVec S5x1x64 1 × IVec S5 1 × IVec S5x131072x512 1 × IVec S5x131072x4 1 × IVec S5x131072x64 1 :=
  let main_c_1 : IVec S_ 8 := constantI S_ 8 255#8
  let main_v21 : IVec S5x1x512 8 := broadcastInDim S5x1x512 ![] bcast_S_S5x1x512 main_c_1
  let main_v22 : IVec S5x1x512 1 := cmpi .ne main_arg4 main_v21
  let main_v23 : IVec S5x1x512 1 := andi main_v20 main_v22
  let main_v24 : FVec F S5x1x4 .f32 := Host.absf main_arg5
  let main_cst_2 : FVec F S_ .f32 := constant S_ .f32 0x7F800000#32
  let main_v25 : FVec F S5x1x4 .f32 := broadcastInDim S5x1x4 ![] bcast_S_S5x1x4 main_cst_2
  let main_v26 : IVec S5x1x4 1 := cmpf .olt main_v24 main_v25
  let main_v27 : FVec F S5x1x64 .bf16 := Host.absf main_arg6
  let main_cst_3 : FVec F S_ .bf16 := constant S_ .bf16 0x7F80#16
  let main_v28 : FVec F S5x1x64 .bf16 := broadcastInDim S5x1x64 ![] bcast_S_S5x1x64 main_cst_3
  let main_v29 : IVec S5x1x64 1 := cmpf .olt main_v27 main_v28
  let main_c_4 : IVec S_ 32 := constantI S_ 32 2147481600#32
  let main_v30 : IVec S5 32 := broadcastInDim S5 ![] bcast_S_S5 main_c_4
  let main_v31 : IVec S5 1 := cmpi .sle main_arg3 main_v30
  let main_v32 : IVec S5x131072x512 8 := (extractStridedSlice S5x131072x512 ![0, 0, 0] · slices_S5x131072x656_S5x131072x512_0_0_0) main_arg2
  let main_c_5 : IVec S_ 8 := constantI S_ 8 127#8
  let main_v33 : IVec S5x131072x512 8 := broadcastInDim S5x131072x512 ![] bcast_S_S5x131072x512 main_c_5
  let main_v34 : IVec S5x131072x512 1 := cmpi .ne main_v32 main_v33
  let main_c_6 : IVec S_ 8 := constantI S_ 8 255#8
  let main_v35 : IVec S5x131072x512 8 := broadcastInDim S5x131072x512 ![] bcast_S_S5x131072x512 main_c_6
  let main_v36 : IVec S5x131072x512 1 := cmpi .ne main_v32 main_v35
  let main_v37 : IVec S5x131072x512 1 := andi main_v34 main_v36
  let main_v38 : IVec S5x131072x512 1 := broadcastInDim S5x131072x512 ![0, 1, 2] bcast_S5x131072x1_S5x131072x512_0_1_2 main_v6
  fn_part2 (F := F) main_v6 main_v9 main_v12 main_v15 main_v18 main_v23 main_v26 main_v29 main_v31 main_v37 main_v38

def fn {F : FTy → Type} [FloatOps F] (main_arg0 : FVec F S5x1x65536 .bf16) (main_arg1 : FVec F S5x1x128x64 .bf16) (main_arg2 : IVec S5x131072x656 8) (main_arg3 : IVec S5 32) (main_arg4 : IVec S5x1x512 8) (main_arg5 : FVec F S5x1x4 .f32) (main_arg6 : FVec F S5x1x64 .bf16) : IVec S5x1x65536 1 × IVec S5x1x128x64 1 × IVec S5x1x512 1 × IVec S5x1x4 1 × IVec S5x1x64 1 × IVec S5 1 × IVec S5x131072x512 1 × IVec S5x131072x4 1 × IVec S5x131072x64 1 :=
  let main_v0 : IVec S131072 32 := iotaInDim S131072 32 0
  let main_v1 : IVec S1x131072 32 := broadcastInDim S1x131072 ![1] bcast_S131072_S1x131072_1 main_v0
  let main_v2 : IVec S5x1 32 := broadcastInDim S5x1 ![0] bcast_S5_S5x1_0 main_arg3
  let main_v3 : IVec S5x131072 32 := broadcastInDim S5x131072 ![0, 1] bcast_S1x131072_S5x131072_0_1 main_v1
  let main_v4 : IVec S5x131072 32 := broadcastInDim S5x131072 ![0, 1] bcast_S5x1_S5x131072_0_1 main_v2
  let main_v5 : IVec S5x131072 1 := cmpi .sge main_v3 main_v4
  let main_v6 : IVec S5x131072x1 1 := broadcastInDim S5x131072x1 ![0, 1] bcast_S5x131072_S5x131072x1_0_1 main_v5
  let main_v7 : IVec S5x131072x16 8 := (extractStridedSlice S5x131072x16 ![0, 0, 512] · slices_S5x131072x656_S5x131072x16_0_0_512) main_arg2
  let main_v8 : IVec S5x131072x4x4 8 := shapeCast S5x131072x4x4 main_v7 shapeCasts_S5x131072x16_S5x131072x4x4
  let main_v9 : FVec F S5x131072x4 .f32 := (fun x => bitcastToFloat .f32 (Host.bitcastConvertWiden S5x131072x4 32 x splits_S5x131072x4_w32_S5x131072x4x4_w8)) main_v8
  let main_v10 : IVec S5x131072x128 8 := (extractStridedSlice S5x131072x128 ![0, 0, 528] · slices_S5x131072x656_S5x131072x128_0_0_528) main_arg2
  let main_v11 : IVec S5x131072x64x2 8 := shapeCast S5x131072x64x2 main_v10 shapeCasts_S5x131072x128_S5x131072x64x2
  let main_v12 : FVec F S5x131072x64 .bf16 := (fun x => bitcastToFloat .bf16 (Host.bitcastConvertWiden S5x131072x64 16 x splits_S5x131072x64_w16_S5x131072x64x2_w8)) main_v11
  let main_v13 : FVec F S5x1x65536 .bf16 := Host.absf main_arg0
  let main_cst : FVec F S_ .bf16 := constant S_ .bf16 0x7F80#16
  let main_v14 : FVec F S5x1x65536 .bf16 := broadcastInDim S5x1x65536 ![] bcast_S_S5x1x65536 main_cst
  let main_v15 : IVec S5x1x65536 1 := cmpf .olt main_v13 main_v14
  let main_v16 : FVec F S5x1x128x64 .bf16 := Host.absf main_arg1
  let main_cst_0 : FVec F S_ .bf16 := constant S_ .bf16 0x7F80#16
  let main_v17 : FVec F S5x1x128x64 .bf16 := broadcastInDim S5x1x128x64 ![] bcast_S_S5x1x128x64 main_cst_0
  let main_v18 : IVec S5x1x128x64 1 := cmpf .olt main_v16 main_v17
  let main_c : IVec S_ 8 := constantI S_ 8 127#8
  let main_v19 : IVec S5x1x512 8 := broadcastInDim S5x1x512 ![] bcast_S_S5x1x512 main_c
  let main_v20 : IVec S5x1x512 1 := cmpi .ne main_arg4 main_v19
  fn_part1 (F := F) main_arg2 main_arg3 main_arg4 main_arg5 main_arg6 main_v6 main_v9 main_v12 main_v15 main_v18 main_v20
-- ==== Kernel.lean ====
abbrev S5x1x65536 : Shape := ⟨3, ![5, 1, 65536]⟩
abbrev S5x1x128x64 : Shape := ⟨4, ![5, 1, 128, 64]⟩
abbrev S5x131072x656 : Shape := ⟨3, ![5, 131072, 656]⟩
abbrev S5 : Shape := ⟨1, ![5]⟩
abbrev S5x1x512 : Shape := ⟨3, ![5, 1, 512]⟩
abbrev S5x1x4 : Shape := ⟨3, ![5, 1, 4]⟩
abbrev S5x1x64 : Shape := ⟨3, ![5, 1, 64]⟩
abbrev S5x128x512 : Shape := ⟨3, ![5, 128, 512]⟩
abbrev S5x128x64 : Shape := ⟨3, ![5, 128, 64]⟩
abbrev S5x1x4x128 : Shape := ⟨4, ![5, 1, 4, 128]⟩
abbrev S5x656x131072 : Shape := ⟨3, ![5, 656, 131072]⟩
abbrev S5x128x1 : Shape := ⟨3, ![5, 128, 1]⟩
abbrev S1x128x512 : Shape := ⟨3, ![1, 128, 512]⟩
abbrev S1x128x64 : Shape := ⟨3, ![1, 128, 64]⟩
abbrev S1x1x512 : Shape := ⟨3, ![1, 1, 512]⟩
abbrev S1x1x64 : Shape := ⟨3, ![1, 1, 64]⟩
abbrev S1x656x2048 : Shape := ⟨3, ![1, 656, 2048]⟩
abbrev S1 : Shape := ⟨1, ![1]⟩
abbrev S1x128x1 : Shape := ⟨3, ![1, 128, 1]⟩
abbrev S128x512 : Shape := ⟨2, ![128, 512]⟩
abbrev S128x128 : Shape := ⟨2, ![128, 128]⟩
abbrev S128x64 : Shape := ⟨2, ![128, 64]⟩
abbrev S1x512 : Shape := ⟨2, ![1, 512]⟩
abbrev S128 : Shape := ⟨1, ![128]⟩
abbrev S128x1 : Shape := ⟨2, ![128, 1]⟩
abbrev S1x64 : Shape := ⟨2, ![1, 64]⟩
abbrev S656x2048 : Shape := ⟨2, ![656, 2048]⟩
abbrev S16x256 : Shape := ⟨2, ![16, 256]⟩
abbrev S4x256 : Shape := ⟨2, ![4, 256]⟩
abbrev S128x256 : Shape := ⟨2, ![128, 256]⟩
abbrev S32x256 : Shape := ⟨2, ![32, 256]⟩
abbrev S64x256 : Shape := ⟨2, ![64, 256]⟩
abbrev S1x256 : Shape := ⟨2, ![1, 256]⟩
abbrev S512x256 : Shape := ⟨2, ![512, 256]⟩

abbrev nBuf : Space → Nat
  | .hbm => 16
  | .vmem => 19
  | .smem => 1
  | _ => 0

abbrev bufTy : (tb : Table) → Fin (tcTables nBuf tb) → BufTy
  | .hbm, ⟨0, _⟩ => ⟨S5x1x65536, .bf16⟩
  | .hbm, ⟨1, _⟩ => ⟨S5x1x128x64, .bf16⟩
  | .hbm, ⟨2, _⟩ => ⟨S5x131072x656, .i8⟩
  | .hbm, ⟨3, _⟩ => ⟨S5x1x512, .i8⟩
  | .hbm, ⟨4, _⟩ => ⟨S5x1x4, .f32⟩
  | .hbm, ⟨5, _⟩ => ⟨S5x1x64, .bf16⟩
  | .hbm, ⟨6, _⟩ => ⟨S5x1x512, .fp8e4m3⟩
  | .hbm, ⟨7, _⟩ => ⟨S5x128x512, .bf16⟩
  | .hbm, ⟨8, _⟩ => ⟨S5x128x64, .bf16⟩
  | .hbm, ⟨9, _⟩ => ⟨S5x1x4x128, .f32⟩
  | .hbm, ⟨10, _⟩ => ⟨S5x1x512, .f32⟩
  | .hbm, ⟨11, _⟩ => ⟨S5x1x512, .bf16⟩
  | .hbm, ⟨12, _⟩ => ⟨S5x1x512, .f32⟩
  | .hbm, ⟨13, _⟩ => ⟨S5x656x131072, .i8⟩
  | .hbm, ⟨14, _⟩ => ⟨S5x128x512, .bf16⟩
  | .hbm, ⟨15, _⟩ => ⟨S5x128x1, .f32⟩
  | .local _ .vmem, ⟨0, _⟩ => ⟨S1x128x512, .bf16⟩
  | .local _ .vmem, ⟨1, _⟩ => ⟨S1x128x512, .bf16⟩
  | .local _ .vmem, ⟨2, _⟩ => ⟨S1x128x64, .bf16⟩
  | .local _ .vmem, ⟨3, _⟩ => ⟨S1x128x64, .bf16⟩
  | .local _ .vmem, ⟨4, _⟩ => ⟨S1x1x512, .fp8e4m3⟩
  | .local _ .vmem, ⟨5, _⟩ => ⟨S1x1x512, .fp8e4m3⟩
  | .local _ .vmem, ⟨6, _⟩ => ⟨S1x1x512, .f32⟩
  | .local _ .vmem, ⟨7, _⟩ => ⟨S1x1x512, .f32⟩
  | .local _ .vmem, ⟨8, _⟩ => ⟨S1x1x64, .bf16⟩
  | .local _ .vmem, ⟨9, _⟩ => ⟨S1x1x64, .bf16⟩
  | .local _ .vmem, ⟨10, _⟩ => ⟨S1x656x2048, .i8⟩
  | .local _ .vmem, ⟨11, _⟩ => ⟨S1x656x2048, .i8⟩
  | .local _ .vmem, ⟨12, _⟩ => ⟨S1x128x512, .bf16⟩
  | .local _ .vmem, ⟨13, _⟩ => ⟨S1x128x512, .bf16⟩
  | .local _ .vmem, ⟨14, _⟩ => ⟨S1x128x1, .f32⟩
  | .local _ .vmem, ⟨15, _⟩ => ⟨S1x128x1, .f32⟩
  | .local _ .vmem, ⟨16, _⟩ => ⟨S128x512, .f32⟩
  | .local _ .vmem, ⟨17, _⟩ => ⟨S128x128, .f32⟩
  | .local _ .vmem, ⟨18, _⟩ => ⟨S128x128, .f32⟩
  | .local _ .smem, ⟨0, _⟩ => ⟨S5, .i32⟩
  | _, _ => ⟨S5x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 64], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c63_i32 : BitVec 32 := 63#32
  let v13 : BitVec 1 := Scalar.cmpi .eq arg1 c63_i32
  let v14 : BitVec 32 := Scalar.extui v13
  let c0_i32_7 : BitVec 32 := 0#32
  let v15 : BitVec 1 := Scalar.cmpi .ne v14 c0_i32_7
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ a, (k0_off1 i) a + S1.size a ≤ S5.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S5) ![v0.toNat] S1.size (k0_off1_inb i)) numel1_S1
  let c2047_i32 : BitVec 32 := 2047#32
  let v2 : BitVec 32 := Scalar.addi v1 c2047_i32
  let c2048_i32 : BitVec 32 := 2048#32
  let v3 : BitVec 32 := Scalar.divsi v2 c2048_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, c0_i32_0.toNat, v6.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x656x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S5x1x65536 : Shape := ⟨3, ![5, 1, 65536]⟩
abbrev S5x1x128x64 : Shape := ⟨4, ![5, 1, 128, 64]⟩
abbrev S5x131072x656 : Shape := ⟨3, ![5, 131072, 656]⟩
abbrev S5 : Shape := ⟨1, ![5]⟩
abbrev S5x1x512 : Shape := ⟨3, ![5, 1, 512]⟩
abbrev S5x1x4 : Shape := ⟨3, ![5, 1, 4]⟩
abbrev S5x1x64 : Shape := ⟨3, ![5, 1, 64]⟩
abbrev S5x1x128x512 : Shape := ⟨4, ![5, 1, 128, 512]⟩
abbrev S5x131072x512 : Shape := ⟨3, ![5, 131072, 512]⟩
abbrev S5x131072x16 : Shape := ⟨3, ![5, 131072, 16]⟩
abbrev S5x131072x4x4 : Shape := ⟨4, ![5, 131072, 4, 4]⟩
abbrev S5x131072x4 : Shape := ⟨3, ![5, 131072, 4]⟩
abbrev S5x131072x128 : Shape := ⟨3, ![5, 131072, 128]⟩
abbrev S5x131072x64x2 : Shape := ⟨4, ![5, 131072, 64, 2]⟩
abbrev S5x131072x64 : Shape := ⟨3, ![5, 131072, 64]⟩
abbrev S5x131072x4x128 : Shape := ⟨4, ![5, 131072, 4, 128]⟩
abbrev S5x131072x4x1 : Shape := ⟨4, ![5, 131072, 4, 1]⟩
abbrev S5x1x4x128 : Shape := ⟨4, ![5, 1, 4, 128]⟩
abbrev S5x1x4x1 : Shape := ⟨4, ![5, 1, 4, 1]⟩
abbrev S5x1x128x131072 : Shape := ⟨4, ![5, 1, 128, 131072]⟩
abbrev S_ : Shape := ⟨0, ![]⟩
abbrev S5x1x128 : Shape := ⟨3, ![5, 1, 128]⟩
abbrev S131072 : Shape := ⟨1, ![131072]⟩
abbrev S1x131072 : Shape := ⟨2, ![1, 131072]⟩
abbrev S5x1 : Shape := ⟨2, ![5, 1]⟩
abbrev S5x131072 : Shape := ⟨2, ![5, 131072]⟩
abbrev S5x1x1x131072 : Shape := ⟨4, ![5, 1, 1, 131072]⟩
abbrev S5x1x128x1 : Shape := ⟨4, ![5, 1, 128, 1]⟩
abbrev S5x1x1 : Shape := ⟨3, ![5, 1, 1]⟩
abbrev S5x1x1x512 : Shape := ⟨4, ![5, 1, 1, 512]⟩
abbrev S5x128x512 : Shape := ⟨3, ![5, 128, 512]⟩
abbrev S5x128x1 : Shape := ⟨3, ![5, 128, 1]⟩

abbrev nBuf : Space → Nat
  | .hbm => 95
  | .vmem => 4
  | .smem => 0
  | _ => 0

abbrev bufTy : (tb : Table) → Fin (tcTables nBuf tb) → BufTy
  | .hbm, ⟨0, _⟩ => ⟨S5x1x65536, .bf16⟩
  | .hbm, ⟨1, _⟩ => ⟨S5x1x128x64, .bf16⟩
  | .hbm, ⟨2, _⟩ => ⟨S5x131072x656, .i8⟩
  | .hbm, ⟨3, _⟩ => ⟨S5, .i32⟩
  | .hbm, ⟨4, _⟩ => ⟨S5x1x512, .i8⟩
  | .hbm, ⟨5, _⟩ => ⟨S5x1x4, .f32⟩
  | .hbm, ⟨6, _⟩ => ⟨S5x1x64, .bf16⟩
  | .hbm, ⟨7, _⟩ => ⟨S5x1x512, .fp8e4m3⟩
  | .hbm, ⟨8, _⟩ => ⟨S5x1x128x512, .bf16⟩
  | .hbm, ⟨9, _⟩ => ⟨S5x131072x512, .i8⟩
  | .hbm, ⟨10, _⟩ => ⟨S5x131072x512, .fp8e4m3⟩
  | .hbm, ⟨11, _⟩ => ⟨S5x131072x512, .bf16⟩
  | .hbm, ⟨12, _⟩ => ⟨S5x1x512, .bf16⟩
  | .hbm, ⟨13, _⟩ => ⟨S5x131072x16, .i8⟩
  | .hbm, ⟨14, _⟩ => ⟨S5x131072x4x4, .i8⟩
  | .hbm, ⟨15, _⟩ => ⟨S5x131072x4, .f32⟩
  | .hbm, ⟨16, _⟩ => ⟨S5x131072x128, .i8⟩
  | .hbm, ⟨17, _⟩ => ⟨S5x131072x64x2, .i8⟩
  | .hbm, ⟨18, _⟩ => ⟨S5x131072x64, .bf16⟩
  | .hbm, ⟨19, _⟩ => ⟨S5x131072x4x128, .bf16⟩
  | .hbm, ⟨20, _⟩ => ⟨S5x131072x4, .bf16⟩
  | .hbm, ⟨21, _⟩ => ⟨S5x131072x4x1, .bf16⟩
  | .hbm, ⟨22, _⟩ => ⟨S5x131072x4x128, .bf16⟩
  | .hbm, ⟨23, _⟩ => ⟨S5x131072x4x128, .bf16⟩
  | .hbm, ⟨24, _⟩ => ⟨S5x131072x512, .bf16⟩
  | .hbm, ⟨25, _⟩ => ⟨S5x1x4x128, .bf16⟩
  | .hbm, ⟨26, _⟩ => ⟨S5x1x4, .bf16⟩
  | .hbm, ⟨27, _⟩ => ⟨S5x1x4x1, .bf16⟩
  | .hbm, ⟨28, _⟩ => ⟨S5x1x4x128, .bf16⟩
  | .hbm, ⟨29, _⟩ => ⟨S5x1x4x128, .bf16⟩
  | .hbm, ⟨30, _⟩ => ⟨S5x1x512, .bf16⟩
  | .hbm, ⟨31, _⟩ => ⟨S5x1x128x131072, .f32⟩
  | .hbm, ⟨32, _⟩ => ⟨S5x1x128x131072, .f32⟩
  | .hbm, ⟨33, _⟩ => ⟨S5x1x128x131072, .f32⟩
  | .hbm, ⟨34, _⟩ => ⟨S_, .f32⟩
  | .hbm, ⟨35, _⟩ => ⟨S5x1x128x131072, .f32⟩
  | .hbm, ⟨36, _⟩ => ⟨S5x1x128x131072, .f32⟩
  | .hbm, ⟨37, _⟩ => ⟨S5x1x128, .f32⟩
  | .hbm, ⟨38, _⟩ => ⟨S5x1x128, .f32⟩
  | .hbm, ⟨39, _⟩ => ⟨S5x1x128, .f32⟩
  | .hbm, ⟨40, _⟩ => ⟨S_, .f32⟩
  | .hbm, ⟨41, _⟩ => ⟨S5x1x128, .f32⟩
  | .hbm, ⟨42, _⟩ => ⟨S5x1x128, .f32⟩
  | .hbm, ⟨43, _⟩ => ⟨S131072, .i32⟩
  | .hbm, ⟨44, _⟩ => ⟨S1x131072, .i32⟩
  | .hbm, ⟨45, _⟩ => ⟨S5x1, .i32⟩
  | .hbm, ⟨46, _⟩ => ⟨S5x131072, .i32⟩
  | .hbm, ⟨47, _⟩ => ⟨S5x131072, .i32⟩
  | .hbm, ⟨48, _⟩ => ⟨S5x131072, .i1⟩
  | .hbm, ⟨49, _⟩ => ⟨S5x1x1x131072, .i1⟩
  | .hbm, ⟨50, _⟩ => ⟨S_, .f32⟩
  | .hbm, ⟨51, _⟩ => ⟨S_, .f32⟩
  | .hbm, ⟨52, _⟩ => ⟨S5x1x128x131072, .i1⟩
  | .hbm, ⟨53, _⟩ => ⟨S5x1x128x131072, .f32⟩
  | .hbm, ⟨54, _⟩ => ⟨S5x1x128x131072, .f32⟩
  | .hbm, ⟨55, _⟩ => ⟨S_, .f32⟩
  | .hbm, ⟨56, _⟩ => ⟨S5x1x128, .f32⟩
  | .hbm, ⟨57, _⟩ => ⟨S5x1x128, .f32⟩
  | .hbm, ⟨58, _⟩ => ⟨S5x1x128x1, .f32⟩
  | .hbm, ⟨59, _⟩ => ⟨S5x1x128x131072, .f32⟩
  | .hbm, ⟨60, _⟩ => ⟨S5x1x128x131072, .f32⟩
  | .hbm, ⟨61, _⟩ => ⟨S5x1x128x131072, .f32⟩
  | .hbm, ⟨62, _⟩ => ⟨S5x1x128, .f32⟩
  | .hbm, ⟨63, _⟩ => ⟨S5x1x128, .f32⟩
  | .hbm, ⟨64, _⟩ => ⟨S_, .f32⟩
  | .hbm, ⟨65, _⟩ => ⟨S5x1x128, .f32⟩
  | .hbm, ⟨66, _⟩ => ⟨S5x1x128, .f32⟩
  | .hbm, ⟨67, _⟩ => ⟨S5x1x128x1, .f32⟩
  | .hbm, ⟨68, _⟩ => ⟨S5x1x128x131072, .f32⟩
  | .hbm, ⟨69, _⟩ => ⟨S5x1x128x131072, .f32⟩
  | .hbm, ⟨70, _⟩ => ⟨S5x1x128x131072, .bf16⟩
  | .hbm, ⟨71, _⟩ => ⟨S5x1x128, .f32⟩
  | .hbm, ⟨72, _⟩ => ⟨S5x1x128, .bf16⟩
  | .hbm, ⟨73, _⟩ => ⟨S5x1x128, .f32⟩
  | .hbm, ⟨74, _⟩ => ⟨S5x1x128, .f32⟩
  | .hbm, ⟨75, _⟩ => ⟨S5, .f32⟩
  | .hbm, ⟨76, _⟩ => ⟨S_, .f32⟩
  | .hbm, ⟨77, _⟩ => ⟨S5, .f32⟩
  | .hbm, ⟨78, _⟩ => ⟨S5, .f32⟩
  | .hbm, ⟨79, _⟩ => ⟨S5, .f32⟩
  | .hbm, ⟨80, _⟩ => ⟨S5x1x1, .f32⟩
  | .hbm, ⟨81, _⟩ => ⟨S5x1x128, .f32⟩
  | .hbm, ⟨82, _⟩ => ⟨S5x1x128, .f32⟩
  | .hbm, ⟨83, _⟩ => ⟨S5x1x128x512, .f32⟩
  | .hbm, ⟨84, _⟩ => ⟨S5x1x128, .f32⟩
  | .hbm, ⟨85, _⟩ => ⟨S5x1x128x1, .f32⟩
  | .hbm, ⟨86, _⟩ => ⟨S5x1x512, .f32⟩
  | .hbm, ⟨87, _⟩ => ⟨S5x1x1x512, .f32⟩
  | .hbm, ⟨88, _⟩ => ⟨S5x1x128x512, .f32⟩
  | .hbm, ⟨89, _⟩ => ⟨S5x1x128x512, .f32⟩
  | .hbm, ⟨90, _⟩ => ⟨S5x1x128x512, .f32⟩
  | .hbm, ⟨91, _⟩ => ⟨S5x1x128x512, .f32⟩
  | .hbm, ⟨92, _⟩ => ⟨S5x128x512, .f32⟩
  | .hbm, ⟨93, _⟩ => ⟨S5x128x512, .bf16⟩
  | .hbm, ⟨94, _⟩ => ⟨S5x128x1, .f32⟩
  | .local _ .vmem, ⟨0, _⟩ => ⟨S5x131072x512, .fp8e4m3⟩
  | .local _ .vmem, ⟨1, _⟩ => ⟨S5x1x512, .fp8e4m3⟩
  | .local _ .vmem, ⟨2, _⟩ => ⟨S5x131072x512, .bf16⟩
  | .local _ .vmem, ⟨3, _⟩ => ⟨S5x1x512, .bf16⟩
  | _, _ => ⟨S5x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5x131072x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x1x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x131072x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/-
  The block of records a grid point fetches, as a number: point `j` of a sequence of `n` tokens asks for block
  `min(j, max((n + 2047) / 2048 - 1, 0))`. It is never past `j`; and it is `j` while the block has tokens.
-/
module

public import Idealize.ShloMosaic.Lib.Affine

@[expose] public section

open Idealize.ShloMosaic

namespace Cert.Mla

/-- The record block point `j` fetches at length `n`. -/
def recBlock (j : ℕ) (n : BitVec 32) : BitVec 32 :=
  Scalar.minsi (BitVec.ofNat 32 j) (Scalar.maxsi (Scalar.subi (Scalar.divsi (Scalar.addi n 2047#32) 2048#32) 1#32) 0#32)

theorem recBlock_le (j : ℕ) (hj : j < 64) (n : BitVec 32) : (recBlock j n).toNat ≤ j := by
  have h := Affine.minsi (Affine.ofNat (e := j) j ⟨rfl, by omega⟩)
    (Affine.maxsi (Affine.word (Scalar.subi (Scalar.divsi (Scalar.addi n 2047#32) 2048#32) 1#32)) (Affine.ofNat (e := 0) 0 ⟨rfl, by omega⟩) rfl) rfl
  have := Affine.toNat_of h (by omega)
  unfold recBlock
  have h0 : (0#32 : BitVec 32) = BitVec.ofNat 32 0 := rfl
  omega

theorem recBlock_eq (j : ℕ) (hj : j < 64) (n : BitVec 32) (h1 : (2048 * j : ℕ) < n.toInt) (h2 : n.toInt ≤ 2 ^ 31 - 2048) :
    (recBlock j n).toNat = j := by
  have h := Affine.minsi (Affine.ofNat (e := j) j ⟨rfl, by omega⟩)
    (Affine.maxsi (Affine.subi (e := (n.toInt + 2047) / 2048 - 1)
      (Affine.divsi (e := (n.toInt + 2047) / 2048)
        (Affine.addi (e := n.toInt + 2047) (Affine.word n) (Affine.ofNat (e := 2047) 2047 ⟨rfl, by omega⟩) ⟨rfl, by omega, by omega⟩)
        (Affine.ofNat (e := 2048) 2048 ⟨rfl, by omega⟩) ⟨rfl, by omega, by omega⟩)
      (Affine.ofNat (e := 1) 1 ⟨rfl, by omega⟩) ⟨rfl, by omega, by omega⟩)
      (Affine.ofNat (e := 0) 0 ⟨rfl, by omega⟩) rfl) rfl
  exact Affine.nat_eq h j (by omega)

/-- Token `2048 j + o + i` of a sequence, as the word a point counts it by. -/
theorem token_lt (j o i : ℕ) (hj : j < 64) (ho : o + i < 2048) (n : BitVec 32) :
    IntOp.cmpi .slt (Scalar.addi (Scalar.muli (BitVec.ofNat 32 j) 2048#32) (BitVec.ofNat 32 o) + BitVec.ofNat 32 i) n = 1#1
      ↔ ((2048 * j + o + i : ℕ) : ℤ) < n.toInt := by
  rw [IntOp.cmpi_slt]
  have h : Scalar.addi (Scalar.muli (BitVec.ofNat 32 j) 2048#32) (BitVec.ofNat 32 o) + BitVec.ofNat 32 i = BitVec.ofNat 32 (2048 * j + o + i) := by
    show (BitVec.ofNat 32 j * BitVec.ofNat 32 2048 + BitVec.ofNat 32 o) + BitVec.ofNat 32 i = _
    rw [← BitVec.ofNat_mul, ← BitVec.ofNat_add, ← BitVec.ofNat_add, Nat.mul_comm]
  rw [h]
  have := Affine.ofNat (e := (2048 * j + o + i : ℕ)) (2048 * j + o + i) ⟨rfl, by omega⟩
  rw [Affine.unique (Affine.word (BitVec.ofNat 32 (2048 * j + o + i))) this]

/-- A point works on its block when the block has tokens. -/
theorem guard_lt (j : ℕ) (hj : j < 64) (n : BitVec 32) :
    Scalar.cmpi .ne (Scalar.extui (Scalar.cmpi .slt (Scalar.muli (BitVec.ofNat 32 j) 2048#32) n)) 0#32 = 1#1 ↔ ((2048 * j : ℕ) : ℤ) < n.toInt := by
  have := token_lt j 0 0 hj (by omega) n
  simp only [Nat.add_zero] at this
  rw [← this]
  have e : Scalar.addi (Scalar.muli (BitVec.ofNat 32 j) 2048#32) (BitVec.ofNat 32 0) + BitVec.ofNat 32 0 = Scalar.muli (BitVec.ofNat 32 j) 2048#32 := by
    show (_ + 0#32) + 0#32 = _
    rw [BitVec.add_zero, BitVec.add_zero]
  rw [e]
  exact Scalar.guard_iff _

end Cert.Mla
-- ==== Proof.OkKernel.lean ====
/-
  The pipeline's side condition on the lengths, for `Kernel`: whatever they are, every record block fetched lies
  inside the cache and moves in whole words.
-/
module

public import proofs.«01_k».proof.Proof.Gen.Kernel.Frame
public import proofs.«01_k».proof.Proof.Words

@[expose] public section

set_option maxRecDepth 16384

open Idealize.ShloMosaic

namespace Cert.Kernel

open Cert.Kernel.Gen

variable {F : FTy → Type} [FloatOps F]

/-- The record block's index at a grid point. -/
theorem recIx (pf : pre0.Contents (Elt F)) (i : grid0.Coords) :
    cc0_transform_5 k0_off1_inb numel1_S1 pf i = ![(BitVec.ofNat 32 (i 0).val).toNat, 0,
      (Mla.recBlock (i 1).val (pf.at 0 (Rect.unit (s := S5) ![(BitVec.ofNat 32 (i 0).val).toNat] S1.size (k0_off1_inb i)) numel1_S1)).toNat] := rfl

theorem ok_aux (u v : ℕ) (hu : u < 5) (hv : v < 64) (a : Fin 3) : ((![u, 0, v] : Fin 3 → ℕ) a + 1) * S1x656x2048.size a ≤ S5x656x131072.size a := by
  fin_cases a
  · show (u + 1) * 1 ≤ 5; omega
  · show (0 + 1) * 656 ≤ 656; omega
  · show (v + 1) * 2048 ≤ 131072; omega

theorem ok (pf : pre0.Contents (Elt F)) : ok0 pf := by
  intro i
  have h0 : (i 0).val < 5 := (i 0).isLt
  have h1 : (i 1).val < 64 := (i 1).isLt
  have hb := Mla.recBlock_le (i 1).val h1 (pf.at 0 (Rect.unit (s := S5) ![(BitVec.ofNat 32 (i 0).val).toNat] S1.size (k0_off1_inb i)) numel1_S1)
  refine ⟨fun a => ?_, Or.inr (Or.inr ⟨(by decide : 2 ≤ 3), rfl, ?_, rfl⟩)⟩
  · rw [recIx]
    exact ok_aux _ _ (by rw [BitVec.toNat_ofNat, Nat.mod_eq_of_lt (by omega)]; exact h0) (by omega) a
  · have e := congrFun (recIx pf i) (1 : Fin 3)
    exact (congrArg (· * 656) e).trans rfl

end Cert.Kernel
-- ==== Proof.Step.lean ====
/-
  The three accumulators a grid point leaves, as one step function of those it found: the weighted values `acc`, the
  running maximum `m` and the running weight `l`. A point works through its 2048 records in eight chunks of 256; a chunk
  enters through its scores (`scoreT`) and its dequantized latent rows (`kvT`), both read off the record block.
-/
module

public import proofs.«01_k».proof.Proof.Gen.KernelIdeal.Frame
public import Idealize.ShloMosaic.Lib.Pipeline.Value
public import Idealize.ShloMosaic.Lib.WholeRead
public import Idealize.ShloMosaic.Lib.ValueLayout
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The loads -/

/-- Rows `r …` and columns `o …` of a record block. -/
def recAt (x5 : Vec F S1x656x2048 .i8) (R C r o : ℕ) (hr : r + R ≤ 656) (ho : o + C ≤ 2048) : Vec F ⟨2, ![R, C]⟩ .i8 := fun j =>
  x5 (ix3 0 ⟨r + (j 0).val, by have : (j 0).val < R := (j 0).isLt; omega⟩ ⟨o + (j 1).val, by have : (j 1).val < C := (j 1).isLt; omega⟩)

/-- A load of rows and columns of the record block, through its slice with the unit axis dropped. -/
theorem readAt_rec (arg8 : Memref sig .tc .vmem S1x656x2048 .i8) (h : arg8.IsWhole) (x5 : Vec F S1x656x2048 .i8)
    (R C r o : ℕ) (hr : r + R ≤ 656) (ho : o + C ≤ 2048) (p)
    (inb : ∀ a, (![r, o] : Fin 2 → ℕ) a + (![R, C] : Fin 2 → ℕ) a ≤ S656x2048.size a) :
    View.readAt (Elt F) ((arg8.slice (Rect.unit ![0, 0, 0] S1x656x2048.size inb_S1x656x2048_S1x656x2048_0_0_0) p).squeeze
      S656x2048 squeezes_S1x656x2048_S656x2048).view (Rect.unit (s := S656x2048) ![r, o] ![R, C] inb).toLoadRect (h.unread x5)
      = recAt x5 R C r o hr ho := by
  funext j
  refine (h.readAt_slice_reshape_unread x5 _ _ _ j).trans ?_
  unfold recAt
  congr 1
  have hj0 : (j 0).val < R := (j 0).isLt
  have hj1 : (j 1).val < C := (j 1).isLt
  have hi : (Rect.unit (s := S656x2048) ![r, o] ![R, C] inb).toLoadRect.idx j = ix2 (⟨r + (j 0).val, by omega⟩ : Fin 656) (⟨o + (j 1).val, by omega⟩ : Fin 2048) := by
    funext a
    fin_cases a
    · exact Fin.ext (show r + 1 * (j 0).val = r + (j 0).val by omega)
    · exact Fin.ext (show o + 1 * (j 1).val = o + (j 1).val by omega)
  rw [hi]
  have hs : Shape.reshapeEquiv (show (⟨2, ![656, 2048]⟩ : Shape).numel = (⟨3, ![1, 656, 2048]⟩ : Shape).numel by decide +kernel)
      (ValueIdx.ix2 (⟨r + (j 0).val, by omega⟩ : Fin 656) (⟨o + (j 1).val, by omega⟩ : Fin 2048)) = _ := ValueIdx.reshapeEquiv_ix2_1ab _ _ _
  rw [ix2_eq_valueIdx]
  refine (congrArg (Rect.emb _) hs).trans ?_
  funext a
  fin_cases a
  · rfl
  · exact Fin.ext (show 0 + 1 * (r + (j 0).val) = r + (j 0).val by omega)
  · exact Fin.ext (show 0 + 1 * (o + (j 1).val) = o + (j 1).val by omega)

theorem readAt_rec16 (arg8 : Memref sig .tc .vmem S1x656x2048 .i8) (h : arg8.IsWhole) (x5 : Vec F S1x656x2048 .i8)
    (r o : ℕ) (hr : r + 16 ≤ 656) (ho : o + 256 ≤ 2048) (inb0) (hn : S656x2048.numel = (Rect.unit (s := S1x656x2048) ![0, 0, 0] ![1, 656, 2048] inb0).shape.numel) (inb : ∀ a, (![r, o] : Fin 2 → ℕ) a + (![16, 256] : Fin 2 → ℕ) a ≤ S656x2048.size a) :
    View.readAt (Elt F) ((arg8.view.slice (Rect.unit (s := S1x656x2048) ![0, 0, 0] ![1, 656, 2048] inb0)).reshape S656x2048 hn)
      (Rect.unit (s := S656x2048) ![r, o] ![16, 256] inb).toLoadRect (h.unread x5)
      = recAt x5 16 256 r o hr ho := readAt_rec arg8 h x5 16 256 r o hr ho (fun _ => rfl) inb

theorem readAt_rec128 (arg8 : Memref sig .tc .vmem S1x656x2048 .i8) (h : arg8.IsWhole) (x5 : Vec F S1x656x2048 .i8)
    (r o : ℕ) (hr : r + 128 ≤ 656) (ho : o + 256 ≤ 2048) (inb0) (hn : S656x2048.numel = (Rect.unit (s := S1x656x2048) ![0, 0, 0] ![1, 656, 2048] inb0).shape.numel) (inb : ∀ a, (![r, o] : Fin 2 → ℕ) a + (![128, 256] : Fin 2 → ℕ) a ≤ S656x2048.size a) :
    View.readAt (Elt F) ((arg8.view.slice (Rect.unit (s := S1x656x2048) ![0, 0, 0] ![1, 656, 2048] inb0)).reshape S656x2048 hn)
      (Rect.unit (s := S656x2048) ![r, o] ![128, 256] inb).toLoadRect (h.unread x5)
      = recAt x5 128 256 r o hr ho := readAt_rec arg8 h x5 128 256 r o hr ho (fun _ => rfl) inb

/-- A load of a whole rank-three block. -/
theorem readAt_whole3 {a b c : ℕ} {e : EltTy} (m : Memref sig .tc .vmem ⟨3, ![a, b, c]⟩ e) (h : m.IsWhole) (v : Vec F ⟨3, ![a, b, c]⟩ e)
    (inb : ∀ i, (![0, 0, 0] : Fin 3 → ℕ) i + (⟨3, ![a, b, c]⟩ : Shape).size i ≤ (⟨3, ![a, b, c]⟩ : Shape).size i) :
    View.readAt (Elt F) m.view (Rect.unit (s := ⟨3, ![a, b, c]⟩) ![0, 0, 0] (⟨3, ![a, b, c]⟩ : Shape).size inb).toLoadRect (h.unread v) = v := by
  rw [View.readAt_eq_ld, h.read_unread]; exact View.ld_unit_zero (S := ⟨3, ![a, b, c]⟩) hz3 inb v

/-- A load of a whole rank-two block. -/
theorem readAt_whole2 {a b : ℕ} {e : EltTy} (m : Memref sig .tc .vmem ⟨2, ![a, b]⟩ e) (h : m.IsWhole) (v : Vec F ⟨2, ![a, b]⟩ e)
    (inb : ∀ i, (![0, 0] : Fin 2 → ℕ) i + (⟨2, ![a, b]⟩ : Shape).size i ≤ (⟨2, ![a, b]⟩ : Shape).size i) :
    View.readAt (Elt F) m.view (Rect.unit (s := ⟨2, ![a, b]⟩) ![0, 0] (⟨2, ![a, b]⟩ : Shape).size inb).toLoadRect (h.unread v) = v := by
  rw [View.readAt_eq_ld, h.read_unread]; exact View.ld_unit_zero (S := ⟨2, ![a, b]⟩) hz2 inb v

/-- Column 0 of a 128×128 accumulator, as a load reads it. -/
def col0 (v : Vec F S128x128 .f32) : Vec F S128x1 .f32 := fun j => v (ix2 (j 0) 0)

theorem readAt_col0 (a : Memref sig .tc .vmem S128x128 .f32) (h : a.IsWhole) (v : Vec F S128x128 .f32)
    (inb : ∀ i, (![0, 0] : Fin 2 → ℕ) i + (![128, 1] : Fin 2 → ℕ) i ≤ S128x128.size i) :
    View.readAt (Elt F) a.view (Rect.unit (s := S128x128) ![0, 0] ![128, 1] inb).toLoadRect (h.unread v) = col0 v := by
  funext j
  refine (h.readAt_unread v _ j).trans ?_
  unfold col0
  congr 1
  funext a
  fin_cases a
  · exact Fin.ext (show 0 + 1 * (j 0).val = (j 0).val by omega)
  · exact Fin.ext (show 0 + 1 * (j 1).val = 0 by have : (j 1).val < 1 := (j 1).isLt; omega)

/-- A whole accumulator read back after a store of the whole of it. -/
theorem readCov_whole2 (u : View sig .tc .vmem S128x512 .f32) (inb0) (w : Vec F S128x512 .f32) (inb) :
    u.readCov [(⟨Rect.unit (s := S128x512) ![0, 0] ![128, 512] inb0, w⟩ : View.Piece (Elt F) S128x512 .f32)]
      (Rect.unit (s := S128x512) ![0, 0] ![128, 512] inb).toLoadRect = w := View.readCov_unit_zero (S := S128x512) u hz2 inb0 w

/-- A rectangle read back after a store of the whole of a buffer. -/
theorem readCov_ld {S : Shape} {e : EltTy} (u : View sig .tc .vmem S e) {off : Fin S.rank → ℕ} (h : off = fun _ => 0)
    (inb0 : ∀ a, off a + S.size a ≤ S.size a) (w : Vec F S e) (r : Rect S) :
    u.readCov [(⟨Rect.unit off S.size inb0, w⟩ : View.Piece (Elt F) S e)] r.toLoadRect = View.ld w r := by
  subst h
  rw [View.readCov_eq_canon_ld _ _ _ (fun y => ⟨_, List.mem_singleton_self _, View.mem_set_unit_zero rfl inb0 y⟩), View.canon_unit_zero rfl]

/-- Column 0 of an accumulator read back after a store of the whole of it. -/
theorem readCov_col0 (u : View sig .tc .vmem S128x128 .f32) (inb0) (w : Vec F S128x128 .f32)
    (inb : ∀ i, (![0, 0] : Fin 2 → ℕ) i + (![128, 1] : Fin 2 → ℕ) i ≤ S128x128.size i) :
    u.readCov [(⟨Rect.unit (s := S128x128) ![0, 0] ![128, 128] inb0, w⟩ : View.Piece (Elt F) S128x128 .f32)]
      (Rect.unit (s := S128x128) ![0, 0] ![128, 1] inb).toLoadRect = col0 w := by
  refine (readCov_ld (S := S128x128) u hz2 inb0 w (Rect.unit (s := S128x128) ![0, 0] ![128, 1] inb)).trans ?_
  funext j
  refine congrArg w (?_ : (Rect.unit (s := S128x128) ![0, 0] ![128, 1] inb).toLoadRect.idx j = ix2 (j 0) 0)
  funext a
  fin_cases a
  · exact Fin.ext (show 0 + 1 * (j 0).val = (j 0).val by omega)
  · exact Fin.ext (show 0 + 1 * (j 1).val = 0 by have : (j 1).val < 1 := (j 1).isLt; omega)

/-! ## One chunk -/

/-- The dequantized latent rows of the chunk at column `o`. -/
def kvT (x5 : Vec F S1x656x2048 .i8) (o : ℕ) (ho : o + 256 ≤ 2048) : FVec F S512x256 .bf16 :=
  k0_pay22 (k0_pay20 (recAt x5 16 256 512 o (by decide) ho)) (recAt x5 128 256 0 o (by decide) ho)
    (recAt x5 128 256 128 o (by decide) ho) (recAt x5 128 256 256 o (by decide) ho) (recAt x5 128 256 384 o (by decide) ho)

/-- The scores of the chunk at column `o`: `-∞` at a token past the sequence's length. -/
def scoreT (i1 : BitVec 32) (n : Elt F .i32) (x0 : Vec F S1x128x512 .bf16) (x1 : Vec F S1x128x64 .bf16)
    (x5 : Vec F S1x656x2048 .i8) (o : ℕ) (ho : o + 256 ≤ 2048) : FVec F S128x256 .f32 :=
  select (cmpi .slt (addi (broadcast S128x256 (Scalar.addi (Scalar.muli i1 2048#32) (BitVec.ofNat 32 o)))
      (iota .tc S128x256 32 [1] iota_S128x256_d1_w32)) (broadcast S128x256 n))
    (mulf (addf
        (matmul dot_S128x512_S512x256_S128x256_1_0_0_1_n_n none (k0_pay1 x0) (kvT x5 o ho) (constant S128x256 .f32 0x00000000#32))
        (matmul dot_S128x64_S64x256_S128x256_1_0_0_1_n_n none (k0_pay2 x1) (k0_pay21 (recAt x5 128 256 528 o (by decide) ho))
          (constant S128x256 .f32 0x00000000#32)))
      (broadcast S128x256 (Scalar.ofBits .f32 0x3D93CD3A#32)))
    (broadcast S128x256 (Scalar.ofBits .f32 0xFF800000#32))

/-! ## One point -/

section

variable (s0 s1 s2 s3 s4 s5 s6 s7 : FVec F S128x256 .f32)

/-- The new running maximum. -/
def maxT (mo : Vec F S128x1 .f32) : FVec F S128x1 .f32 :=
  maximumf mo (shapeCast S128x1 (multiReduction .maximumf [1] S128
    (maximumf (maximumf (maximumf (maximumf (maximumf (maximumf (maximumf s0 s1) s2) s3) s4) s5) s6) s7)
    0xFF800000#32 reduces_S128x256_S128 (.inl rfl) rfl) shapeCasts_S128_S128x1)

/-- A chunk's weights against a running maximum. -/
def weightT (s : FVec F S128x256 .f32) (mn : FVec F S128x1 .f32) : FVec F S128x256 .f32 :=
  exp (subf s (broadcastTo S128x256 mn broadcasts_S128x1_S128x256))

/-- A chunk's weights summed per row. -/
def rowSumT (p : FVec F S128x256 .f32) : FVec F S128x1 .f32 :=
  shapeCast S128x1 (multiReduction .add [1] S128 p 0x00000000#32 reduces_S128x256_S128 (.inl rfl) rfl) shapeCasts_S128_S128x1

/-- A chunk's latent rows summed by its weights. -/
def rowMixT (p : FVec F S128x256 .f32) (k : FVec F S512x256 .bf16) : FVec F S128x512 .f32 :=
  matmul dot_S128x256_S512x256_S128x512_1_1_0_0_n_n none (truncf .bf16 p bitsLt_bf16_f32) k (constant S128x512 .f32 0x00000000#32)

/-- The new running weight, from the old, the old maximum and the new one. -/
def sumT (mo : Vec F S128x1 .f32) (mn : FVec F S128x1 .f32) (lo : Vec F S128x1 .f32) : FVec F S128x1 .f32 :=
  addf (addf (addf (addf (addf (addf (addf (addf (mulf (exp (subf mo mn)) lo) (rowSumT (weightT s0 mn))) (rowSumT (weightT s1 mn)))
    (rowSumT (weightT s2 mn))) (rowSumT (weightT s3 mn))) (rowSumT (weightT s4 mn))) (rowSumT (weightT s5 mn)))
    (rowSumT (weightT s6 mn))) (rowSumT (weightT s7 mn))

/-- The new weighted values, from the old. -/
def mixT (k0 k1 k2 k3 k4 k5 k6 k7 : FVec F S512x256 .bf16) (mo : Vec F S128x1 .f32) (mn : FVec F S128x1 .f32)
    (ao : Vec F S128x512 .f32) : FVec F S128x512 .f32 :=
  addf (addf (addf (addf (addf (addf (addf (addf (mulf ao (broadcastTo S128x512 (exp (subf mo mn)) broadcasts_S128x1_S128x512))
    (rowMixT (weightT s0 mn) k0)) (rowMixT (weightT s1 mn) k1)) (rowMixT (weightT s2 mn) k2)) (rowMixT (weightT s3 mn) k3))
    (rowMixT (weightT s4 mn) k4)) (rowMixT (weightT s5 mn) k5)) (rowMixT (weightT s6 mn) k6)) (rowMixT (weightT s7 mn) k7)

end

/-- A column spread over the 128 columns of an accumulator. -/
def spreadT (v : FVec F S128x1 .f32) : FVec F S128x128 .f32 := broadcastTo S128x128 v broadcasts_S128x1_S128x128

section

variable (i1 : BitVec 32) (n : Elt F .i32) (x0 : Vec F S1x128x512 .bf16) (x1 : Vec F S1x128x64 .bf16) (x5 : Vec F S1x656x2048 .i8)

/-- A point's new maximum. -/
def stepMax (mo : Vec F S128x1 .f32) : FVec F S128x1 .f32 :=
  maxT (scoreT i1 n x0 x1 x5 0 (by decide)) (scoreT i1 n x0 x1 x5 256 (by decide)) (scoreT i1 n x0 x1 x5 512 (by decide))
    (scoreT i1 n x0 x1 x5 768 (by decide)) (scoreT i1 n x0 x1 x5 1024 (by decide)) (scoreT i1 n x0 x1 x5 1280 (by decide))
    (scoreT i1 n x0 x1 x5 1536 (by decide)) (scoreT i1 n x0 x1 x5 1792 (by decide)) mo

/-- A point's new weight. -/
def stepSum (mo lo : Vec F S128x1 .f32) : FVec F S128x1 .f32 :=
  sumT (scoreT i1 n x0 x1 x5 0 (by decide)) (scoreT i1 n x0 x1 x5 256 (by decide)) (scoreT i1 n x0 x1 x5 512 (by decide))
    (scoreT i1 n x0 x1 x5 768 (by decide)) (scoreT i1 n x0 x1 x5 1024 (by decide)) (scoreT i1 n x0 x1 x5 1280 (by decide))
    (scoreT i1 n x0 x1 x5 1536 (by decide)) (scoreT i1 n x0 x1 x5 1792 (by decide)) mo (stepMax i1 n x0 x1 x5 mo) lo

/-- A point's new weighted values. -/
def stepMix (mo : Vec F S128x1 .f32) (ao : Vec F S128x512 .f32) : FVec F S128x512 .f32 :=
  mixT (scoreT i1 n x0 x1 x5 0 (by decide)) (scoreT i1 n x0 x1 x5 256 (by decide)) (scoreT i1 n x0 x1 x5 512 (by decide))
    (scoreT i1 n x0 x1 x5 768 (by decide)) (scoreT i1 n x0 x1 x5 1024 (by decide)) (scoreT i1 n x0 x1 x5 1280 (by decide))
    (scoreT i1 n x0 x1 x5 1536 (by decide)) (scoreT i1 n x0 x1 x5 1792 (by decide))
    (kvT x5 0 (by decide)) (kvT x5 256 (by decide)) (kvT x5 512 (by decide)) (kvT x5 768 (by decide)) (kvT x5 1024 (by decide))
    (kvT x5 1280 (by decide)) (kvT x5 1536 (by decide)) (kvT x5 1792 (by decide)) mo (stepMax i1 n x0 x1 x5 mo) ao

end

/-! ## What the cases store -/

theorem pay9_eq (p : FVec F S128x256 .f32) (mn l : FVec F S128x1 .f32) : k0_pay9 p mn l = spreadT (addf l (rowSumT (k0_pay7 p mn))) := by
  unfold k0_pay9
  simp only [shapeCast_self]
  rfl

theorem pay10_eq (mn : FVec F S128x1 .f32) : k0_pay10 mn = spreadT mn := by
  unfold k0_pay10
  simp only [shapeCast_self]
  rfl

section

variable (c : Dev nD) (i : grid0.Coords) (arg3 : Memref sig .tc .vmem S1x128x512 .bf16) (harg3 : arg3.IsWhole)
  (arg4 : Memref sig .tc .vmem S1x128x64 .bf16) (harg4 : arg4.IsWhole) (arg5 : Memref sig .tc .vmem S1x1x512 .fp8e4m3) (harg5 : arg5.IsWhole)
  (arg6 : Memref sig .tc .vmem S1x1x512 .f32) (harg6 : arg6.IsWhole) (arg7 : Memref sig .tc .vmem S1x1x64 .bf16) (harg7 : arg7.IsWhole)
  (arg8 : Memref sig .tc .vmem S1x656x2048 .i8) (harg8 : arg8.IsWhole) (arg9 : Memref sig .tc .vmem S1x128x512 .bf16) (harg9 : arg9.IsWhole)
  (arg10 : Memref sig .tc .vmem S1x128x1 .f32) (harg10 : arg10.IsWhole) (arg11 : Memref sig .tc .vmem S128x512 .f32) (harg11 : arg11.IsWhole)
  (arg12 : Memref sig .tc .vmem S128x128 .f32) (harg12 : arg12.IsWhole) (arg13 : Memref sig .tc .vmem S128x128 .f32) (harg13 : arg13.IsWhole)
  (x0 : Vec F S1x128x512 .bf16) (x1 : Vec F S1x128x64 .bf16) (x2 : Vec F S1x1x512 .fp8e4m3) (x3 : Vec F S1x1x512 .f32)
  (x4 : Vec F S1x1x64 .bf16) (x5 : Vec F S1x656x2048 .i8) (xt0 : TbBuf0 (F := F) c tbM0_0)
  (xs0 : Vec F S128x512 .f32) (xs1 : Vec F S128x128 .f32) (xs2 : Vec F S128x128 .f32)

/-- The length word a point reads from the table. -/
abbrev lenAt : Elt F .i32 := tbM0_0.view.readAt (Elt F) (Rect.unit (s := S5) (k0_off1 i) S1.size (k0_off1_inb i)).toLoadRect xt0 (Shape.Idx.first (numel1_S1.symm ▸ Nat.one_pos))

/-- The weighted values a sequence's first point leaves: those of the new token, then one step. -/
theorem sout_A_0 (hc0 : cond0_0 i) (hc2 : ¬cond0_2 i) (hc1 : cond0_1 i (lenAt c i xt0)) :
    sout0_A_0 c i arg3 harg3 arg4 harg4 arg5 harg5 arg6 harg6 arg7 harg7 arg8 harg8 arg9 harg9 arg10 harg10 arg11 harg11 arg12 harg12 arg13 harg13 hc0 hc2 x0 x1 x2 x3 x4 x5 xt0 hc1
      = stepMix (BitVec.ofNat 32 (i 1).val) (lenAt c i xt0) x0 x1 x5 (col0 (k0_pay4 x0 x1 x2 x3 x4)) (k0_pay6 x2 x3) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc2 x0 x1 x2 x3 x4 x5 xt0 hc1)]
  unfold kernelRun0_A
  dsimp only
  sl_unfold_words
  rw [View.canon_cons_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  simp only [readCov_col0, readCov_whole2]
  unfold k0_pay8
  simp only [shapeCast_self]
  rfl

/-- The maximum a sequence's first point leaves: those of the new token, then one step. -/
theorem sout_A_1 (hc0 : cond0_0 i) (hc2 : ¬cond0_2 i) (hc1 : cond0_1 i (lenAt c i xt0)) :
    sout0_A_1 c i arg3 harg3 arg4 harg4 arg5 harg5 arg6 harg6 arg7 harg7 arg8 harg8 arg9 harg9 arg10 harg10 arg11 harg11 arg12 harg12 arg13 harg13 hc0 hc2 x0 x1 x2 x3 x4 x5 xt0 hc1
      = spreadT (stepMax (BitVec.ofNat 32 (i 1).val) (lenAt c i xt0) x0 x1 x5 (col0 (k0_pay4 x0 x1 x2 x3 x4))) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc2 x0 x1 x2 x3 x4 x5 xt0 hc1)]
  unfold kernelRun0_A
  dsimp only
  sl_unfold_words
  rw [View.canon_cons_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  simp only [readCov_col0, readCov_whole2]
  unfold k0_pay10
  simp only [shapeCast_self]
  rfl

/-- The weight a sequence's first point leaves: those of the new token, then one step. -/
theorem sout_A_2 (hc0 : cond0_0 i) (hc2 : ¬cond0_2 i) (hc1 : cond0_1 i (lenAt c i xt0)) :
    sout0_A_2 c i arg3 harg3 arg4 harg4 arg5 harg5 arg6 harg6 arg7 harg7 arg8 harg8 arg9 harg9 arg10 harg10 arg11 harg11 arg12 harg12 arg13 harg13 hc0 hc2 x0 x1 x2 x3 x4 x5 xt0 hc1
      = spreadT (stepSum (BitVec.ofNat 32 (i 1).val) (lenAt c i xt0) x0 x1 x5 (col0 (k0_pay4 x0 x1 x2 x3 x4)) (col0 k0_pay5)) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc2 x0 x1 x2 x3 x4 x5 xt0 hc1)]
  unfold kernelRun0_A
  dsimp only
  sl_unfold_words
  rw [View.canon_cons_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  simp only [readCov_col0, readCov_whole2]
  unfold k0_pay9
  simp only [shapeCast_self]
  rfl

/-- A first point that works through no record leaves the weighted values of the new token alone. -/
theorem sout_B_0 (hc0 : cond0_0 i) (hc2 : ¬cond0_2 i) (hc1 : ¬cond0_1 i (lenAt c i xt0)) :
    sout0_B_0 c i arg3 harg3 arg4 harg4 arg5 harg5 arg6 harg6 arg7 harg7 arg8 harg8 arg9 harg9 arg10 harg10 arg11 harg11 arg12 harg12 arg13 harg13 hc0 hc2 x0 x1 x2 x3 x4 x5 xt0 hc1
      = k0_pay6 x2 x3 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc2 x0 x1 x2 x3 x4 x5 xt0 hc1)]
  unfold kernelRun0_B
  dsimp only
  sl_unfold_words
  rw [View.canon_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]

/-- A first point that works through no record leaves the maximum of the new token alone. -/
theorem sout_B_1 (hc0 : cond0_0 i) (hc2 : ¬cond0_2 i) (hc1 : ¬cond0_1 i (lenAt c i xt0)) :
    sout0_B_1 c i arg3 harg3 arg4 harg4 arg5 harg5 arg6 harg6 arg7 harg7 arg8 harg8 arg9 harg9 arg10 harg10 arg11 harg11 arg12 harg12 arg13 harg13 hc0 hc2 x0 x1 x2 x3 x4 x5 xt0 hc1
      = k0_pay4 x0 x1 x2 x3 x4 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 hc2 x0 x1 x2 x3 x4 x5 xt0 hc1)]
  unfold kernelRun0_B
  dsimp only
  sl_unfold_words
  rw [View.canon_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]

/-- A first point that works through no record leaves the weight of the new token alone. -/
theorem sout_B_2 (hc0 : cond0_0 i) (hc2 : ¬cond0_2 i) (hc1 : ¬cond0_1 i (lenAt c i xt0)) :
    sout0_B_2 c i arg3 harg3 arg4 harg4 arg5 harg5 arg6 harg6 arg7 harg7 arg8 harg8 arg9 harg9 arg10 harg10 arg11 harg11 arg12 harg12 arg13 harg13 hc0 hc2 x0 x1 x2 x3 x4 x5 xt0 hc1
      = k0_pay5 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 hc0 hc2 x0 x1 x2 x3 x4 x5 xt0 hc1)]
  unfold kernelRun0_B
  dsimp only
  sl_unfold_words
  rw [View.canon_unit_zero hz2]

/-- The weighted values a later point leaves: one step. -/
theorem sout_C_0 (hc0 : ¬cond0_0 i) (hc2 : ¬cond0_2 i) (hc1 : cond0_1 i (lenAt c i xt0)) :
    sout0_C_0 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = stepMix (BitVec.ofNat 32 (i 1).val) (lenAt c i xt0) x0 x1 x5 (col0 xs1) xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_C
  dsimp only
  sl_unfold_words
  rw [View.canon_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  unfold k0_pay8
  simp only [shapeCast_self]
  rfl

/-- The maximum a later point leaves: one step. -/
theorem sout_C_1 (hc0 : ¬cond0_0 i) (hc2 : ¬cond0_2 i) (hc1 : cond0_1 i (lenAt c i xt0)) :
    sout0_C_1 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = spreadT (stepMax (BitVec.ofNat 32 (i 1).val) (lenAt c i xt0) x0 x1 x5 (col0 xs1)) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_C
  dsimp only
  sl_unfold_words
  rw [View.canon_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  unfold k0_pay10
  simp only [shapeCast_self]
  rfl

/-- The weight a later point leaves: one step. -/
theorem sout_C_2 (hc0 : ¬cond0_0 i) (hc2 : ¬cond0_2 i) (hc1 : cond0_1 i (lenAt c i xt0)) :
    sout0_C_2 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = spreadT (stepSum (BitVec.ofNat 32 (i 1).val) (lenAt c i xt0) x0 x1 x5 (col0 xs1) (col0 xs2)) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_C
  dsimp only
  sl_unfold_words
  rw [View.canon_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  unfold k0_pay9
  simp only [shapeCast_self]
  rfl

/-- The weighted values the last point leaves: one step. -/
theorem sout_E_0 (hc0 : ¬cond0_0 i) (hc2 : cond0_2 i) (hc1 : cond0_1 i (lenAt c i xt0)) :
    sout0_E_0 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = stepMix (BitVec.ofNat 32 (i 1).val) (lenAt c i xt0) x0 x1 x5 (col0 xs1) xs0 := by
  unfold sout0_E_0
  rw [View.read_writes_eq_canon _ _ _ (scover0_E_0 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_E
  dsimp only
  sl_unfold_words
  rw [View.canon_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  unfold k0_pay8
  simp only [shapeCast_self]
  rfl

/-- The maximum the last point leaves: one step. -/
theorem sout_E_1 (hc0 : ¬cond0_0 i) (hc2 : cond0_2 i) (hc1 : cond0_1 i (lenAt c i xt0)) :
    sout0_E_1 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = spreadT (stepMax (BitVec.ofNat 32 (i 1).val) (lenAt c i xt0) x0 x1 x5 (col0 xs1)) := by
  unfold sout0_E_1
  rw [View.read_writes_eq_canon _ _ _ (scover0_E_1 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_E
  dsimp only
  sl_unfold_words
  rw [View.canon_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  unfold k0_pay10
  simp only [shapeCast_self]
  rfl

/-- The weight the last point leaves: one step. -/
theorem sout_E_2 (hc0 : ¬cond0_0 i) (hc2 : cond0_2 i) (hc1 : cond0_1 i (lenAt c i xt0)) :
    sout0_E_2 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = spreadT (stepSum (BitVec.ofNat 32 (i 1).val) (lenAt c i xt0) x0 x1 x5 (col0 xs1) (col0 xs2)) := by
  unfold sout0_E_2
  rw [View.read_writes_eq_canon _ _ _ (scover0_E_2 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_E
  dsimp only
  sl_unfold_words
  rw [View.canon_unit_zero hz2]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  unfold k0_pay9
  simp only [shapeCast_self]
  rfl

/-- The output block the last point writes, from the accumulators it leaves. -/
theorem out_E_6 (hc0 : ¬cond0_0 i) (hc2 : cond0_2 i) (hc1 : cond0_1 i (lenAt c i xt0)) :
    out0_E_6 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = k0_pay11 (col0 (spreadT (stepSum (BitVec.ofNat 32 (i 1).val) (lenAt c i xt0) x0 x1 x5 (col0 xs1) (col0 xs2)))) (stepMix (BitVec.ofNat 32 (i 1).val) (lenAt c i xt0) x0 x1 x5 (col0 xs1) xs0) := by
  unfold out0_E_6
  rw [View.read_writes_eq_canon _ _ _ (cover0_E_6 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_E
  dsimp only
  sl_unfold_words
  rw [View.canon_unit_zero hz3]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  simp only [readCov_col0, readCov_whole2]
  unfold k0_pay8 k0_pay9
  simp only [shapeCast_self]
  rfl

/-- The block of log-weights the last point writes, from the accumulators it leaves. -/
theorem out_E_7 (hc0 : ¬cond0_0 i) (hc2 : cond0_2 i) (hc1 : cond0_1 i (lenAt c i xt0)) :
    out0_E_7 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = k0_pay12 (lenAt c i xt0) (col0 (spreadT (stepSum (BitVec.ofNat 32 (i 1).val) (lenAt c i xt0) x0 x1 x5 (col0 xs1) (col0 xs2)))) (col0 (spreadT (stepMax (BitVec.ofNat 32 (i 1).val) (lenAt c i xt0) x0 x1 x5 (col0 xs1)))) := by
  unfold out0_E_7
  rw [View.read_writes_eq_canon _ _ _ (cover0_E_7 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_E
  dsimp only
  sl_unfold_words
  rw [View.canon_unit_zero hz3]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  refine congr (congr (congrArg k0_pay12 rfl) ?_) ?_
  · exact (readCov_col0 _ _ _ _).trans (congrArg col0 (pay9_eq _ _ _))
  · exact (readCov_col0 _ _ _ _).trans (congrArg col0 (pay10_eq _))

/-- The output block the last point writes, from the accumulators it leaves. -/
theorem out_F_6 (hc0 : ¬cond0_0 i) (hc2 : cond0_2 i) (hc1 : ¬cond0_1 i (lenAt c i xt0)) :
    out0_F_6 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = k0_pay11 (col0 xs2) (xs0) := by
  unfold out0_F_6
  rw [View.read_writes_eq_canon _ _ _ (cover0_F_6 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_F
  dsimp only
  sl_unfold_words
  rw [View.canon_unit_zero hz3]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]

/-- The block of log-weights the last point writes, from the accumulators it leaves. -/
theorem out_F_7 (hc0 : ¬cond0_0 i) (hc2 : cond0_2 i) (hc1 : ¬cond0_1 i (lenAt c i xt0)) :
    out0_F_7 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1
      = k0_pay12 (lenAt c i xt0) (col0 xs2) (col0 xs1) := by
  unfold out0_F_7
  rw [View.read_writes_eq_canon _ _ _ (cover0_F_7 c i arg3 harg3 arg4 harg4 arg5 harg5 arg6 harg6 arg7 harg7 arg8 harg8 arg9 harg9 arg10 harg10 arg11 harg11 arg12 harg12 arg13 harg13 hc0 hc2 x0 x1 x2 x3 x4 x5 xt0 xs0 xs1 xs2 hc1)]
  unfold kernelRun0_F
  dsimp only
  sl_unfold_words
  rw [View.canon_unit_zero hz3]
  simp only [readAt_rec16, readAt_rec128, readAt_col0, readAt_whole3 (a := 1) (b := 128) (c := 512), readAt_whole3 (a := 1) (b := 128) (c := 64),
    readAt_whole3 (a := 1) (b := 1) (c := 512), readAt_whole3 (a := 1) (b := 1) (c := 64), readAt_whole2 (a := 128) (b := 512), Nat.reduceAdd, Nat.reduceLeDiff]
  rfl

end

end Cert.KernelIdeal.Value

end
-- ==== Proof.Data.lean ====
/-
  One cache record — 656 bytes: 512 float8 codes of the latent row, four float32 scales (one per 128 codes), 64 bfloat16
  rotary entries — and the numbers read off it; and a head's score against a row.
-/
module

public import Idealize.ShloMosaic.PureOps.Ideal

@[expose] public section

noncomputable section

open Idealize.ShloMosaic

namespace Cert.Mla

/-- Four bytes as a word, the first lowest. -/
def word4 (f : Fin 4 → BitVec 8) : BitVec 32 := (f 3 ++ f 2 : BitVec 16) ++ (f 1 ++ f 0 : BitVec 16)

/-- Two bytes as a halfword, the first lower. -/
def half2 (f : Fin 2 → BitVec 8) : BitVec 16 := f 1 ++ f 0

theorem half2_getLsbD (f : Fin 2 → BitVec 8) (q : ℕ) (hq : q < 16) : (half2 f).getLsbD q = (f ⟨q / 8, by omega⟩).getLsbD (q % 8) := by
  unfold half2
  rw [BitVec.getLsbD_append]
  by_cases h : q < 8
  · rw [if_pos h]
    have e : (⟨q / 8, by omega⟩ : Fin 2) = 0 := Fin.ext (by show q / 8 = 0; omega)
    rw [e, Nat.mod_eq_of_lt h]
  · rw [if_neg h]
    have e : (⟨q / 8, by omega⟩ : Fin 2) = 1 := Fin.ext (by show q / 8 = 1; omega)
    rw [e, show q % 8 = q - 8 by omega]

theorem word4_getLsbD (f : Fin 4 → BitVec 8) (q : ℕ) (hq : q < 32) : (word4 f).getLsbD q = (f ⟨q / 8, by omega⟩).getLsbD (q % 8) := by
  unfold word4
  rw [BitVec.getLsbD_append]
  by_cases h : q < 16
  · rw [if_pos h, BitVec.getLsbD_append]
    by_cases h' : q < 8
    · rw [if_pos h']
      have e : (⟨q / 8, by omega⟩ : Fin 4) = 0 := Fin.ext (by show q / 8 = 0; omega)
      rw [e, Nat.mod_eq_of_lt h']
    · rw [if_neg h']
      have e : (⟨q / 8, by omega⟩ : Fin 4) = 1 := Fin.ext (by show q / 8 = 1; omega)
      rw [e, show q % 8 = q - 8 by omega]
  · rw [if_neg h, BitVec.getLsbD_append]
    by_cases h' : q < 24
    · rw [if_pos (by omega)]
      have e : (⟨q / 8, by omega⟩ : Fin 4) = 2 := Fin.ext (by show q / 8 = 2; omega)
      rw [e, show q % 8 = q - 16 by omega]
    · rw [if_neg (by omega)]
      have e : (⟨q / 8, by omega⟩ : Fin 4) = 3 := Fin.ext (by show q / 8 = 3; omega)
      rw [e, show q % 8 = q - 16 - 8 by omega]

/-- A record's bytes. -/
abbrev Rec := Fin 656 → BitVec 8

namespace Rec

/-- The scale of the `k`-th 128 codes. -/
def scale (R : Rec) (k : Fin 4) : EReal := Ideal.ofBits .f32 (word4 fun e => R ⟨512 + 4 * k.val + e.val, by omega⟩)

/-- The latent row, dequantized. -/
def latent (R : Rec) (c : Fin 512) : EReal := Ideal.ofBits .fp8e4m3 (R ⟨c.val, by omega⟩) * R.scale ⟨c.val / 128, by omega⟩

/-- The rotary row. -/
def rope (R : Rec) (r : Fin 64) : EReal := Ideal.ofBits .bf16 (half2 fun e => R ⟨528 + 2 * r.val + e.val, by omega⟩)

end Rec

/-- A head's score against a row: latent part and rotary part, scaled. -/
def score (q : Fin 512 → EReal) (qr : Fin 64 → EReal) (k : Fin 512 → EReal) (kr : Fin 64 → EReal) : EReal :=
  (∑ c, q c * k c + ∑ r, qr r * kr r) * Ideal.ofBits .f32 0x3D93CD3A#32

/-! ## Which patterns are numbers -/

/-- The float32 word of `-∞`. -/
theorem neg_inf_f32 : Ideal.ofBits .f32 0xFF800000#32 = ⊥ := by simp [Ideal.ofBits, Ideal.ieee]

/-- The float32 word of `∞`. -/
theorem pos_inf_f32 : Ideal.ofBits .f32 0x7F800000#32 = ⊤ := by simp [Ideal.ofBits, Ideal.ieee]

/-- The bfloat16 halfword of `∞`. -/
theorem pos_inf_bf16 : Ideal.ofBits .bf16 0x7F80#16 = ⊤ := by simp [Ideal.ofBits, Ideal.ieee]

/-- The scores' factor is real. -/
theorem factor_real : ∃ r : ℝ, Ideal.ofBits .f32 0x3D93CD3A#32 = r := by
  simp only [Ideal.ofBits, Ideal.ieee]
  exact ⟨_, by rw [if_neg (by decide), if_neg (by decide)]⟩

/-- Every float8 code but the two NaNs is real. -/
theorem code_real (b : BitVec 8) (h : b ≠ 0x7F#8) (h' : b ≠ 0xFF#8) : ∃ r : ℝ, Ideal.ofBits .fp8e4m3 b = r := by
  have hc : ¬((b.extractLsb' 3 4).toNat = 15 ∧ (b.extractLsb' 0 3).toNat = 7) := by revert b; decide
  show ∃ r : ℝ, Ideal.e4m3fn b = r
  unfold Ideal.e4m3fn
  dsimp only
  rw [if_neg hc]
  split_ifs <;> exact ⟨_, rfl⟩

end Cert.Mla

end
-- ==== Proof.Online.lean ====
/-
  Softmax attention of one query head over a sequence, in real numbers: the weight `Z` and the weighted values `W` of
  the new token and the first `J` cached ones. A running state (maximum, weight, weighted values) holds them scaled by
  `e^-M` for SOME real `M` (`Holds`): what the result is read from does not depend on which. A chunk of 256 tokens
  moves the state on (`chunk_weight`, `chunk_mix`); dividing at the end gives `W / Z` and `log Z`, and so does the
  plain formula with one maximum over all tokens (`plain_mix`, `plain_weight`).
-/
module

public import Idealize.ShloMosaic.PureOps.Ideal

@[expose] public section

noncomputable section

open Idealize.ShloMosaic

namespace Cert.Mla

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type*} (s : Finset ι) (f : ι → EReal) (h : ∀ i ∈ s, ∃ r : ℝ, f i = r) : ∃ r : ℝ, ∑ i ∈ s, f i = r := by
  choose g hg using h
  refine ⟨∑ i ∈ s.attach, g i.1 i.2, ?_⟩
  rw [coe_sum, ← Finset.sum_attach]
  exact Finset.sum_congr rfl fun i _ => hg i.1 i.2

/-- An extended real that is neither infinity is real. -/
theorem real_of_ne (x : EReal) (h : x ≠ ⊥) (h' : x ≠ ⊤) : ∃ r : ℝ, x = r := ⟨x.toReal, (EReal.coe_toReal h' h).symm⟩

/-- The maximum of a real and of values below `⊤` is real. -/
theorem max_real {ι : Type*} [Fintype ι] (m : EReal) (hm : ∃ M : ℝ, m = M) (s : ι → EReal) (hs : ∀ i, s i ≠ ⊤) :
    ∃ M : ℝ, max m (Finset.univ.fold max ⊥ s) = M := by
  obtain ⟨M, rfl⟩ := hm
  refine real_of_ne _ ?_ ?_
  · exact ne_of_gt (lt_of_lt_of_le (EReal.bot_lt_coe M) (le_max_left _ _))
  · refine ne_of_lt (max_lt (EReal.coe_lt_top M) ?_)
    rw [Finset.fold_max_lt]
    exact ⟨bot_lt_top, fun i _ => lt_top_iff_ne_top.mpr (hs i)⟩

/-- One query head's scores and values: `σ`, `v₀` the new token's, `r`, `v` the cached ones', `n` the length. -/
structure Row where
  σ : ℝ
  v₀ : Fin 512 → ℝ
  r : ℕ → ℝ
  v : ℕ → Fin 512 → ℝ
  n : ℤ

namespace Row

variable (R : Row)

/-- The weight of cached token `t`: none past the length. -/
def w (t : ℕ) : ℝ := if (t : ℤ) < R.n then Real.exp (R.r t) else 0

/-- The weight of the new token and the first `J` cached ones. -/
def Z (J : ℕ) : ℝ := Real.exp R.σ + ∑ t ∈ Finset.range J, R.w t

/-- Their weighted values. -/
def W (J : ℕ) (c : Fin 512) : ℝ := Real.exp R.σ * R.v₀ c + ∑ t ∈ Finset.range J, R.w t * R.v t c

theorem w_nonneg (t : ℕ) : 0 ≤ R.w t := by unfold w; split_ifs; exacts [(Real.exp_pos _).le, le_rfl]

theorem Z_pos (J : ℕ) : 0 < R.Z J :=
  add_pos_of_pos_of_nonneg (Real.exp_pos _) (Finset.sum_nonneg fun t _ => R.w_nonneg t)

/-- A state holds the first `J` tokens: maximum, weight and weighted values at some common scale. -/
def Holds (J : ℕ) (m l : EReal) (a : Fin 512 → EReal) : Prop :=
  ∃ M : ℝ, m = M ∧ l = ((Real.exp (-M) * R.Z J : ℝ) : EReal) ∧ ∀ c, a c = ((Real.exp (-M) * R.W J c : ℝ) : EReal)

/-- The new token alone. -/
theorem holds_zero (m l : EReal) (a : Fin 512 → EReal) (hm : m = R.σ) (hl : l = 1) (ha : ∀ c, a c = R.v₀ c) : R.Holds 0 m l a := by
  have h : Real.exp (-R.σ) * Real.exp R.σ = 1 := by rw [← Real.exp_add]; simp
  refine ⟨R.σ, hm, ?_, fun c => ?_⟩
  · rw [hl]; simp [Z, h]
  · rw [ha]; simp [W, ← mul_assoc, h]

/-- Tokens past the length change nothing. -/
theorem Holds.skip {R : Row} {J J' : ℕ} {m l : EReal} {a : Fin 512 → EReal} (h : R.Holds J m l a) (hJ : J ≤ J') (hn : R.n ≤ J) :
    R.Holds J' m l a := by
  have hw : ∀ t ∈ Finset.range J', t ∉ Finset.range J → R.w t = 0 := fun t _ ht => by
    have : J ≤ t := by simpa using ht
    exact if_neg (by omega)
  have hsub : Finset.range J ⊆ Finset.range J' := Finset.range_subset_range.mpr hJ
  have hZ : R.Z J' = R.Z J := by
    unfold Z; rw [Finset.sum_subset hsub hw]
  have hW : ∀ c, R.W J' c = R.W J c := fun c => by
    unfold W; rw [Finset.sum_subset hsub (fun t h h' => by rw [hw t h h', zero_mul])]
  obtain ⟨M, hm, hl, ha⟩ := h
  exact ⟨M, hm, by rw [hZ]; exact hl, fun c => by rw [hW]; exact ha c⟩

/-- The scores of the 256 tokens from `J` on: `-∞` past the length. -/
def Scores {N : ℕ} (J : ℕ) (s : Fin N → EReal) : Prop := ∀ i, s i = if ((J + i.val : ℕ) : ℤ) < R.n then (R.r (J + i.val) : EReal) else ⊥

/-- The values of the tokens from `J` on, up to the length. -/
def Values {N : ℕ} (J : ℕ) (k : Fin 512 → Fin N → EReal) : Prop := ∀ i c, ((J + i.val : ℕ) : ℤ) < R.n → k c i = R.v (J + i.val) c

variable {R}

theorem Scores.ne_top {N J : ℕ} {s : Fin N → EReal} (h : R.Scores J s) (i : Fin N) : s i ≠ ⊤ := by
  rw [h i]; split_ifs; exacts [EReal.coe_ne_top _, bot_ne_top]

/-- A token's weight against a maximum `M`. -/
theorem Scores.exp {N J : ℕ} {s : Fin N → EReal} (h : R.Scores J s) (M : ℝ) (i : Fin N) :
    Ideal.exp (s i - (M : EReal)) = ((Real.exp (-M) * R.w (J + i.val) : ℝ) : EReal) := by
  rw [h i]; unfold w
  split_ifs with hv
  · rw [← EReal.coe_sub, Ideal.exp_coe, ← Real.exp_add]; congr 2; ring
  · rw [EReal.bot_sub]; simp

/-- A token's weight times its value: zero past the length, whatever stands there. -/
theorem Scores.mul {N J : ℕ} {s : Fin N → EReal} (h : R.Scores J s) {k : Fin 512 → Fin N → EReal} (hk : R.Values J k) (M : ℝ) (i : Fin N) (c : Fin 512) :
    Ideal.exp (s i - (M : EReal)) * k c i = ((Real.exp (-M) * (R.w (J + i.val) * R.v (J + i.val) c) : ℝ) : EReal) := by
  rw [h.exp M i]
  by_cases hv : ((J + i.val : ℕ) : ℤ) < R.n
  · rw [hk i c hv, ← EReal.coe_mul, mul_assoc]
  · have : R.w (J + i.val) = 0 := if_neg hv
    rw [this]; simp

theorem sum_shift (f : ℕ → ℝ) (J N : ℕ) : ∑ t ∈ Finset.range (J + N), f t = ∑ t ∈ Finset.range J, f t + ∑ i : Fin N, f (J + i.val) := by
  rw [Finset.sum_range_add, Fin.sum_univ_eq_sum_range (fun i => f (J + i)) N]

/-- A chunk's weights join the running weight. -/
theorem chunk_weight {N J J' : ℕ} {s : Fin N → EReal} (h : R.Scores J s) (hJ : J' = J + N) (M : ℝ) (x : EReal)
    (hx : x = ((Real.exp (-M) * R.Z J : ℝ) : EReal)) :
    x + ∑ i, Ideal.exp (s i - (M : EReal)) = ((Real.exp (-M) * R.Z J' : ℝ) : EReal) := by
  subst hJ
  rw [hx, Finset.sum_congr rfl (fun i _ => h.exp M i), ← coe_sum, ← EReal.coe_add]
  unfold Z
  rw [sum_shift, ← Finset.mul_sum]
  congr 1; ring

/-- A chunk's weighted values join the running ones. -/
theorem chunk_mix {N J J' : ℕ} {s : Fin N → EReal} (h : R.Scores J s) {k : Fin 512 → Fin N → EReal} (hk : R.Values J k) (hJ : J' = J + N)
    (M : ℝ) (c : Fin 512) (x : EReal) (hx : x = ((Real.exp (-M) * R.W J c : ℝ) : EReal)) :
    x + ∑ i, Ideal.exp (s i - (M : EReal)) * k c i = ((Real.exp (-M) * R.W J' c : ℝ) : EReal) := by
  subst hJ
  rw [hx, Finset.sum_congr rfl (fun i _ => h.mul hk M i c), ← coe_sum, ← EReal.coe_add]
  unfold W
  rw [sum_shift, ← Finset.mul_sum]
  congr 1; ring

/-- A new maximum rescales what is held. -/
theorem rescale (M M' z : ℝ) : Ideal.exp ((M : EReal) - (M' : EReal)) * ((Real.exp (-M) * z : ℝ) : EReal) = ((Real.exp (-M') * z : ℝ) : EReal) := by
  rw [← EReal.coe_sub, Ideal.exp_coe, ← EReal.coe_mul, ← mul_assoc, ← Real.exp_add]
  congr 3; ring

/-- Eight chunks of 256 tokens move the state on by 2048. -/
theorem Holds.step {J : ℕ} {m l : EReal} {a : Fin 512 → EReal} (h : R.Holds J m l a)
    {s0 s1 s2 s3 s4 s5 s6 s7 : Fin 256 → EReal} {k0 k1 k2 k3 k4 k5 k6 k7 : Fin 512 → Fin 256 → EReal}
    (h0 : R.Scores J s0) (h1 : R.Scores (J + 256) s1) (h2 : R.Scores (J + 512) s2) (h3 : R.Scores (J + 768) s3)
    (h4 : R.Scores (J + 1024) s4) (h5 : R.Scores (J + 1280) s5) (h6 : R.Scores (J + 1536) s6) (h7 : R.Scores (J + 1792) s7)
    (g0 : R.Values J k0) (g1 : R.Values (J + 256) k1) (g2 : R.Values (J + 512) k2) (g3 : R.Values (J + 768) k3)
    (g4 : R.Values (J + 1024) k4) (g5 : R.Values (J + 1280) k5) (g6 : R.Values (J + 1536) k6) (g7 : R.Values (J + 1792) k7)
    {m' l' : EReal} {a' : Fin 512 → EReal}
    (hm : m' = max m (Finset.univ.fold max ⊥ fun i => max (max (max (max (max (max (max (s0 i) (s1 i)) (s2 i)) (s3 i)) (s4 i)) (s5 i)) (s6 i)) (s7 i)))
    (hl : l' = Ideal.exp (m - m') * l + ∑ i, Ideal.exp (s0 i - m') + ∑ i, Ideal.exp (s1 i - m') + ∑ i, Ideal.exp (s2 i - m')
      + ∑ i, Ideal.exp (s3 i - m') + ∑ i, Ideal.exp (s4 i - m') + ∑ i, Ideal.exp (s5 i - m') + ∑ i, Ideal.exp (s6 i - m')
      + ∑ i, Ideal.exp (s7 i - m'))
    (ha : ∀ c, a' c = a c * Ideal.exp (m - m') + ∑ i, Ideal.exp (s0 i - m') * k0 c i + ∑ i, Ideal.exp (s1 i - m') * k1 c i
      + ∑ i, Ideal.exp (s2 i - m') * k2 c i + ∑ i, Ideal.exp (s3 i - m') * k3 c i + ∑ i, Ideal.exp (s4 i - m') * k4 c i
      + ∑ i, Ideal.exp (s5 i - m') * k5 c i + ∑ i, Ideal.exp (s6 i - m') * k6 c i + ∑ i, Ideal.exp (s7 i - m') * k7 c i) :
    R.Holds (J + 2048) m' l' a' := by
  obtain ⟨M, rfl, rfl, h3a⟩ := h
  obtain ⟨M', hM'⟩ : ∃ M' : ℝ, m' = M' := by
    rw [hm]
    refine max_real _ ⟨M, rfl⟩ _ fun i => ?_
    refine ne_of_lt ?_
    simp only [max_lt_iff]
    exact ⟨⟨⟨⟨⟨⟨⟨h0.ne_top i |>.lt_top, h1.ne_top i |>.lt_top⟩, h2.ne_top i |>.lt_top⟩, h3.ne_top i |>.lt_top⟩, h4.ne_top i |>.lt_top⟩,
      h5.ne_top i |>.lt_top⟩, h6.ne_top i |>.lt_top⟩, h7.ne_top i |>.lt_top⟩
  clear hm
  subst hM'
  refine ⟨M', rfl, ?_, fun c => ?_⟩
  · rw [hl]
    exact chunk_weight h7 rfl M' _ (chunk_weight h6 rfl M' _ (chunk_weight h5 rfl M' _ (chunk_weight h4 rfl M' _ (chunk_weight h3 rfl M' _
      (chunk_weight h2 rfl M' _ (chunk_weight h1 rfl M' _ (chunk_weight h0 rfl M' _ (rescale M M' _))))))))
  · rw [ha, h3a, mul_comm]
    exact chunk_mix h7 g7 rfl M' c _ (chunk_mix h6 g6 rfl M' c _ (chunk_mix h5 g5 rfl M' c _ (chunk_mix h4 g4 rfl M' c _ (chunk_mix h3 g3 rfl M' c _
      (chunk_mix h2 g2 rfl M' c _ (chunk_mix h1 g1 rfl M' c _ (chunk_mix h0 g0 rfl M' c _ (rescale M M' _))))))))

theorem div_real (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

theorem log_real (x : ℝ) (hx : 0 < x) : Ideal.log (x : EReal) = ((Real.log x : ℝ) : EReal) := by
  rw [Ideal.log_coe, if_neg (not_le.mpr hx)]

/-- The state's quotient. -/
theorem Holds.quotient {J : ℕ} {m l : EReal} {a : Fin 512 → EReal} (h : R.Holds J m l a) (c : Fin 512) :
    Ideal.div (a c) l = ((R.W J c / R.Z J : ℝ) : EReal) := by
  obtain ⟨M, rfl, rfl, ha⟩ := h
  rw [ha, div_real _ _ (mul_pos (Real.exp_pos _) (R.Z_pos J)), mul_div_mul_left _ _ (Real.exp_pos _).ne']

/-- The state's log-weight. -/
theorem Holds.logWeight {J : ℕ} {m l : EReal} {a : Fin 512 → EReal} (h : R.Holds J m l a) :
    m + Ideal.log l = ((Real.log (R.Z J) : ℝ) : EReal) := by
  obtain ⟨M, rfl, rfl, ha⟩ := h
  rw [log_real _ (mul_pos (Real.exp_pos _) (R.Z_pos J)), Real.log_mul (Real.exp_pos _).ne' (R.Z_pos J).ne', Real.log_exp, ← EReal.coe_add]
  congr 1; ring

/-! ## The plain formula -/

section

variable {N : ℕ} {s : Fin N → EReal} (h : R.Scores 0 s) {k : Fin 512 → Fin N → EReal} (hk : R.Values 0 k)

include h

theorem plain_max : ∃ M : ℝ, max (Finset.univ.fold max ⊥ s) (R.σ : EReal) = M := by
  rw [max_comm]; exact max_real _ ⟨_, rfl⟩ _ h.ne_top

theorem plain_denom (M : ℝ) : ∑ i, Ideal.exp (s i - (M : EReal)) + Ideal.exp ((R.σ : EReal) - (M : EReal)) = ((Real.exp (-M) * R.Z N : ℝ) : EReal) := by
  have := chunk_weight h (J' := N) (by omega) M (Ideal.exp ((R.σ : EReal) - (M : EReal))) (by
    rw [← EReal.coe_sub, Ideal.exp_coe]; unfold Z; simp only [Finset.range_zero, Finset.sum_empty, add_zero]; rw [← Real.exp_add]; congr 2; ring)
  rw [add_comm]; exact this

/-- The plain formula's log-weight. -/
theorem plain_logWeight (m d : EReal) (hm : m = max (Finset.univ.fold max ⊥ s) (R.σ : EReal))
    (hd : d = ∑ i, Ideal.exp (s i - m) + Ideal.exp ((R.σ : EReal) - m)) : m + Ideal.log d = ((Real.log (R.Z N) : ℝ) : EReal) := by
  obtain ⟨M, hM⟩ := plain_max h
  rw [hM] at hm; subst hm
  rw [hd, plain_denom h, log_real _ (mul_pos (Real.exp_pos _) (R.Z_pos N)), Real.log_mul (Real.exp_pos _).ne' (R.Z_pos N).ne', Real.log_exp, ← EReal.coe_add]
  congr 1; ring

include hk

/-- The plain formula's output. -/
theorem plain_mix (m d : EReal) (hm : m = max (Finset.univ.fold max ⊥ s) (R.σ : EReal))
    (hd : d = ∑ i, Ideal.exp (s i - m) + Ideal.exp ((R.σ : EReal) - m)) (c : Fin 512) :
    ∑ i, Ideal.div (Ideal.exp (s i - m)) d * k c i + Ideal.div (Ideal.exp ((R.σ : EReal) - m)) d * (R.v₀ c : EReal) = ((R.W N c / R.Z N : ℝ) : EReal) := by
  obtain ⟨M, hM⟩ := plain_max h
  rw [hM] at hm; subst hm
  have hpos : 0 < Real.exp (-M) * R.Z N := mul_pos (Real.exp_pos _) (R.Z_pos N)
  rw [hd, plain_denom h]
  have e1 : ∀ i ∈ Finset.univ, Ideal.div (Ideal.exp (s i - (M : EReal))) ((Real.exp (-M) * R.Z N : ℝ) : EReal) * k c i
      = ((R.w i.val * R.v i.val c / R.Z N : ℝ) : EReal) := fun i _ => by
    rw [h.exp M i, div_real _ _ hpos, mul_div_mul_left _ _ (Real.exp_pos _).ne', Nat.zero_add]
    by_cases hv : ((i.val : ℕ) : ℤ) < R.n
    · rw [hk i c (by rw [Nat.zero_add]; exact hv), Nat.zero_add, ← EReal.coe_mul]; congr 1; ring
    · have : R.w i.val = 0 := if_neg hv
      rw [this]; simp
  rw [Finset.sum_congr rfl e1, ← coe_sum, ← EReal.coe_sub, Ideal.exp_coe, div_real _ _ hpos, ← EReal.coe_mul, ← EReal.coe_add]
  have e2 : Real.exp (R.σ - M) = Real.exp (-M) * Real.exp R.σ := by rw [← Real.exp_add]; congr 1; ring
  rw [e2, mul_div_mul_left _ _ (Real.exp_pos _).ne']
  unfold W
  rw [← Fin.sum_univ_eq_sum_range (fun t => R.w t * R.v t c) N, ← Finset.sum_div]
  congr 1; ring

end

end Row

end Cert.Mla

end
-- ==== Proof.Chunk.lean ====
/-
  What a grid point computes, entry by entry: the chunk's latent and rotary rows off the record bytes, its scores, the
  state it starts from (the new token's), the step of the state and the results read off it.
-/
module

public import proofs.«01_k».proof.Proof.Step
public import proofs.«01_k».proof.Proof.Data
public import proofs.«01_k».proof.Proof.Words
public import proofs.«01_k».proof.Proof.Online
public import Idealize.ShloMosaic.Lib.BitcastFour
public import Idealize.ShloMosaic.Lib.BitcastPair

@[expose] public section

set_option maxRecDepth 16384

noncomputable section

open Idealize.ShloMosaic Idealize.ShloMosaic.TcCoe Idealize.SL.Sem

namespace Cert.KernelIdeal.Value

open Cert.KernelIdeal Cert.KernelIdeal.Gen Cert.Mla

/-- The record at column `p` of a block. -/
def recOf (x5 : Vec Ideal S1x656x2048 .i8) (p : Fin 2048) : Rec := fun k => x5 (ix3 0 k p)

/-! ## The rows -/

/-- Rows of bytes joined four to a word. -/
theorem bitcast_word4 {R r n : ℕ} (x : (⟨2, ![R, n]⟩ : Shape).Idx → BitVec 8) (h : (⟨2, ![R, n]⟩ : Shape).Bitcasts 8 ⟨2, ![r, n]⟩ 32)
    (hR : R = 4 * r) (a : Fin r) (l : Fin n) :
    bitcast ⟨2, ![r, n]⟩ 32 x h (ix2 a l) = word4 fun e => x (ix2 ⟨4 * a.val + e.val, by omega⟩ l) := by
  apply BitVec.eq_of_getLsbD_eq
  intro q hq
  rw [word4_getLsbD _ q hq, ix2_eq_valueIdx, ix2_eq_valueIdx]
  exact bitcast_8_32_getLsbD_ix2 x h a l q hq ⟨4 * a.val + q / 8, by omega⟩ rfl

/-- Words cut in two halves, a row each. -/
theorem bitcast_half {R r n : ℕ} (x : (⟨2, ![R, n]⟩ : Shape).Idx → BitVec 32) (h : (⟨2, ![R, n]⟩ : Shape).Bitcasts 32 ⟨2, ![r, n]⟩ 16)
    (hR : r = 2 * R) (a : Fin r) (l : Fin n) :
    bitcast ⟨2, ![r, n]⟩ 16 x h (ix2 a l) = (x (ix2 ⟨a.val / 2, by omega⟩ l)).extractLsb' (16 * (a.val % 2)) 16 := by
  rw [bitcast_32_16]
  have hrow : (⟨2, ![r, n]⟩ : Shape).row (ix2 a l) = a.val := rfl
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

section

variable (x5 : Vec Ideal S1x656x2048 .i8) (o : ℕ) (ho : o + 256 ≤ 2048)

theorem scale_apply (k : Fin 4) (i : Fin 256) :
    k0_pay20 (F := Ideal) (recAt x5 16 256 512 o (by decide) ho) (ix2 k i) = (recOf x5 ⟨o + i.val, by omega⟩).scale k := by
  unfold k0_pay20 Rec.scale
  simp only [shapeCast_self]
  show Ideal.ofBits .f32 (bitcast S4x256 32 _ _ (ix2 k i)) = _
  rw [bitcast_word4 _ _ rfl]
  rfl

theorem rope_apply (r : Fin 64) (i : Fin 256) :
    k0_pay21 (F := Ideal) (recAt x5 128 256 528 o (by decide) ho) (ix2 r i) = (recOf x5 ⟨o + i.val, by omega⟩).rope r := by
  unfold k0_pay21 Rec.rope
  simp only [shapeCast_self]
  show Ideal.ofBits .bf16 (bitcast S64x256 16 _ _ (ix2 r i)) = _
  rw [bitcast_half (R := 32) (r := 64) (n := 256) _ _ rfl, bitcast_word4 (R := 128) (r := 32) (n := 256) _ _ rfl]
  congr 1
  apply BitVec.eq_of_getLsbD_eq
  intro q hq
  rw [half2_getLsbD _ q hq, BitVec.getLsbD_extractLsb', word4_getLsbD _ _ (by omega)]
  have e1 : (16 * (r.val % 2) + q) % 8 = q % 8 := by omega
  simp only [hq, decide_true, Bool.true_and, e1, recAt, recOf]
  congr 3
  apply Fin.ext
  show 528 + (4 * (r.val / 2) + (16 * (r.val % 2) + q) / 8) = 528 + 2 * r.val + q / 8
  omega

theorem kvT_apply (c : Fin 512) (i : Fin 256) :
    kvT (F := Ideal) x5 o ho (ix2 c i) = (recOf x5 ⟨o + i.val, by omega⟩).latent c := by
  unfold kvT Rec.latent
  have hs : ∀ k : Fin 4, c.val / 128 = k.val → (recOf x5 ⟨o + i.val, by omega⟩).scale ⟨c.val / 128, by omega⟩
      = k0_pay20 (F := Ideal) (recAt x5 16 256 512 o (by decide) ho) (ix2 k i) := fun k hk => by
    rw [scale_apply]; congr 1; exact Fin.ext hk
  generalize k0_pay20 (F := Ideal) (recAt x5 16 256 512 o (by decide) ho) = sc at hs
  unfold k0_pay22
  simp only [shapeCast_self]
  pointwise []
  have hb : ∀ (r : ℕ) (hr : r + 128 ≤ 656) (l : Fin 128), r + l.val = c.val → recAt x5 128 256 r o hr ho (ix2 l i) = recOf x5 ⟨o + i.val, by omega⟩ ⟨c.val, by omega⟩ :=
    fun r hr l h => by
      show x5 (ix3 0 _ _) = x5 (ix3 0 _ _)
      congr 2
      exact Fin.ext h
  by_cases h1 : c.val < 128
  · rw [dif_pos h1, hs 0 (by show c.val / 128 = 0; omega), hb 0 _ _ (by show 0 + c.val = c.val; omega)]
  by_cases h2 : c.val - 128 < 128
  · rw [dif_neg h1, dif_pos h2, hs 1 (by show c.val / 128 = 1; omega), hb 128 _ _ (by show 128 + (c.val - 128) = c.val; omega)]
  by_cases h3 : c.val - 128 - 128 < 128
  · rw [dif_neg h1, dif_neg h2, dif_pos h3, hs 2 (by show c.val / 128 = 2; omega), hb 256 _ _ (by show 256 + (c.val - 128 - 128) = c.val; omega)]
  · rw [dif_neg h1, dif_neg h2, dif_neg h3, hs 3 (by show c.val / 128 = 3; omega), hb 384 _ _ (by show 384 + (c.val - 128 - 128 - 128) = c.val; omega)]

end

/-! ## The scores -/

section

variable (x0 : Vec Ideal S1x128x512 .bf16) (x1 : Vec Ideal S1x128x64 .bf16) (x5 : Vec Ideal S1x656x2048 .i8)

theorem scoreT_apply (j : ℕ) (hj : j < 64) (n : BitVec 32) (o : ℕ) (ho : o + 256 ≤ 2048) (h : Fin 128) (i : Fin 256) :
    scoreT (F := Ideal) (BitVec.ofNat 32 j) n x0 x1 x5 o ho (ix2 h i)
      = if ((2048 * j + o + i.val : ℕ) : ℤ) < n.toInt then
          score (fun c => x0 (ix3 0 h c)) (fun r => x1 (ix3 0 h r)) (recOf x5 ⟨o + i.val, by omega⟩).latent (recOf x5 ⟨o + i.val, by omega⟩).rope
        else ⊥ := by
  unfold score
  simp only [← kvT_apply x5 o ho, ← rope_apply x5 o ho]
  unfold scoreT
  generalize kvT (F := Ideal) x5 o ho = kv
  generalize k0_pay21 (F := Ideal) (recAt x5 128 256 528 o _ ho) = kr
  have ht := token_lt j o i.val hj (by omega) n
  pointwise [k0_pay1, k0_pay2]
  have hinf : Ideal.ofBits .f32 0xFF800000#32 = ⊥ := neg_inf_f32
  rw [hinf]
  unfold Scalar.select
  exact if_congr ht rfl rfl

end

/-! ## The state -/

section

variable (x0 : Vec Ideal S1x128x512 .bf16) (x1 : Vec Ideal S1x128x64 .bf16) (x2 : Vec Ideal S1x1x512 .fp8e4m3) (x3 : Vec Ideal S1x1x512 .f32)
  (x4 : Vec Ideal S1x1x64 .bf16)

theorem pay6_apply (h : Fin 128) (c : Fin 512) : k0_pay6 (F := Ideal) x2 x3 (ix2 h c) = x2 (ix3 0 0 c) * x3 (ix3 0 0 c) := by
  pointwise [k0_pay6, k0_pay3]

theorem pay5_apply (h l : Fin 128) : k0_pay5 (F := Ideal) (ix2 h l) = 1 := by
  pointwise [k0_pay5]

theorem pay4_apply (h l : Fin 128) : k0_pay4 (F := Ideal) x0 x1 x2 x3 x4 (ix2 h l)
    = score (fun c => x0 (ix3 0 h c)) (fun r => x1 (ix3 0 h r)) (fun c => x2 (ix3 0 0 c) * x3 (ix3 0 0 c)) (fun r => x4 (ix3 0 0 r)) := by
  pointwise [k0_pay4, k0_pay3, k0_pay2, k0_pay1, score]

theorem pay11_apply (l : Vec Ideal S128x1 .f32) (a : Vec Ideal S128x512 .f32) (h : Fin 128) (c : Fin 512) :
    k0_pay11 (F := Ideal) l a (ix3 0 h c) = Ideal.div (a (ix2 h c)) (l (ix2 h 0)) := by
  pointwise [k0_pay11]

theorem pay12_apply (n : BitVec 32) (l m : Vec Ideal S128x1 .f32) (h : Fin 128) :
    k0_pay12 (F := Ideal) n l m (ix3 0 h 0) = m (ix2 h 0) + Ideal.log (l (ix2 h 0)) - Ideal.log (((n.toInt : ℝ) : EReal) + 1) := by
  pointwise [k0_pay12]
  rfl

theorem col0_spread (v : Vec Ideal S128x1 .f32) : col0 (spreadT v) = v := by
  funext j
  idx_vars j
  pointwise [col0, spreadT]
  congr 2
  exact Subsingleton.elim _ _

variable (s0 s1 s2 s3 s4 s5 s6 s7 : FVec Ideal S128x256 .f32)

theorem maxT_apply (mo : Vec Ideal S128x1 .f32) (h : Fin 128) : maxT s0 s1 s2 s3 s4 s5 s6 s7 mo (ix2 h 0)
    = max (mo (ix2 h 0)) (Finset.univ.fold max ⊥ fun i => max (max (max (max (max (max (max (s0 (ix2 h i)) (s1 (ix2 h i))) (s2 (ix2 h i))) (s3 (ix2 h i)))
        (s4 (ix2 h i))) (s5 (ix2 h i))) (s6 (ix2 h i))) (s7 (ix2 h i))) := by
  pointwise [maxT]
  rw [neg_inf_f32]

theorem rowSumT_apply (s : FVec Ideal S128x256 .f32) (mn : FVec Ideal S128x1 .f32) (h : Fin 128) :
    rowSumT (weightT s mn) (ix2 h 0) = ∑ i, Ideal.exp (s (ix2 h i) - mn (ix2 h 0)) := by
  pointwise [rowSumT, weightT]

theorem rowMixT_apply (s : FVec Ideal S128x256 .f32) (mn : FVec Ideal S128x1 .f32) (k : FVec Ideal S512x256 .bf16) (h : Fin 128) (c : Fin 512) :
    rowMixT (weightT s mn) k (ix2 h c) = ∑ i, Ideal.exp (s (ix2 h i) - mn (ix2 h 0)) * k (ix2 c i) := by
  pointwise [rowMixT, weightT]

/-! ## One point moves the state on -/

end

/-- Where every head's state holds its first `2048 j` tokens, block `j`'s records give it the next 2048. -/
theorem step_holds (R : Row) (x0 : Vec Ideal S1x128x512 .bf16) (x1 : Vec Ideal S1x128x64 .bf16) (x5 : Vec Ideal S1x656x2048 .i8)
    (j : ℕ) (hj : j < 64) (n : BitVec 32) (hn : R.n = n.toInt) (h : Fin 128)
    (hr : ∀ p : Fin 2048, ((2048 * j + p.val : ℕ) : ℤ) < n.toInt →
      score (fun c => x0 (ix3 0 h c)) (fun r => x1 (ix3 0 h r)) (recOf x5 p).latent (recOf x5 p).rope = R.r (2048 * j + p.val))
    (hv : ∀ (p : Fin 2048) (c : Fin 512), ((2048 * j + p.val : ℕ) : ℤ) < n.toInt → (recOf x5 p).latent c = R.v (2048 * j + p.val) c)
    (mo lo : Vec Ideal S128x1 .f32) (ao : Vec Ideal S128x512 .f32)
    (hs : R.Holds (2048 * j) (mo (ix2 h 0)) (lo (ix2 h 0)) fun c => ao (ix2 h c)) :
    R.Holds (2048 * j + 2048) (stepMax (BitVec.ofNat 32 j) n x0 x1 x5 mo (ix2 h 0)) (stepSum (BitVec.ofNat 32 j) n x0 x1 x5 mo lo (ix2 h 0))
      fun c => stepMix (BitVec.ofNat 32 j) n x0 x1 x5 mo ao (ix2 h c) := by
  have hS : ∀ (o : ℕ) (ho : o + 256 ≤ 2048), R.Scores (2048 * j + o) fun i : Fin 256 => scoreT (F := Ideal) (BitVec.ofNat 32 j) n x0 x1 x5 o ho (ix2 h i) :=
    fun o ho i => by
      show scoreT (F := Ideal) (BitVec.ofNat 32 j) n x0 x1 x5 o ho (ix2 h i) = _
      rw [scoreT_apply x0 x1 x5 j hj n o ho h i, hn]
      by_cases hc : ((2048 * j + o + i.val : ℕ) : ℤ) < n.toInt
      · rw [if_pos hc, if_pos hc, hr ⟨o + i.val, by omega⟩ (by show ((2048 * j + (o + i.val) : ℕ) : ℤ) < _; rw [← Nat.add_assoc]; exact hc)]
        show ((R.r (2048 * j + (o + i.val)) : ℝ) : EReal) = _
        rw [← Nat.add_assoc]
      · rw [if_neg hc, if_neg hc]
  have hV : ∀ (o : ℕ) (ho : o + 256 ≤ 2048), R.Values (2048 * j + o) fun (c : Fin 512) (i : Fin 256) => kvT (F := Ideal) x5 o ho (ix2 c i) :=
    fun o ho i c hc => by
      rw [hn] at hc
      show kvT (F := Ideal) x5 o ho (ix2 c i) = _
      rw [kvT_apply, hv ⟨o + i.val, by omega⟩ c (by show ((2048 * j + (o + i.val) : ℕ) : ℤ) < _; rw [← Nat.add_assoc]; exact hc)]
      show ((R.v (2048 * j + (o + i.val)) c : ℝ) : EReal) = _
      rw [← Nat.add_assoc]
  refine hs.step (hS 0 (by decide)) (hS 256 (by decide)) (hS 512 (by decide)) (hS 768 (by decide)) (hS 1024 (by decide)) (hS 1280 (by decide)) (hS 1536 (by decide)) (hS 1792 (by decide))
    (hV 0 (by decide)) (hV 256 (by decide)) (hV 512 (by decide)) (hV 768 (by decide)) (hV 1024 (by decide)) (hV 1280 (by decide)) (hV 1536 (by decide)) (hV 1792 (by decide)) (maxT_apply _ _ _ _ _ _ _ _ mo h) ?_ fun c => ?_
  · show sumT _ _ _ _ _ _ _ _ mo (stepMax _ n x0 x1 x5 mo) lo (ix2 h 0) = _
    unfold sumT
    simp only [addf_apply, Ideal.addf_def, rowSumT_apply]
    rfl
  · show mixT _ _ _ _ _ _ _ _ _ _ _ _ _ _ _ _ mo (stepMax _ n x0 x1 x5 mo) ao (ix2 h c) = _
    unfold mixT
    simp only [addf_apply, Ideal.addf_def, rowMixT_apply]
    pointwise []

end Cert.KernelIdeal.Value

end
-- ==== Proof.Inputs.lean ====
/-
  The inputs as the attention reads them — per sequence `b`: the heads' queries (latent and rotary part), the cache's
  records, the length, the new token's rows — the softmax row of a head (`Inputs.row`) and the two results.
-/
module

public import proofs.«01_k».proof.Proof.Data
public import proofs.«01_k».proof.Proof.Online
public import Idealize.ShloMosaic.Lib.Pointwise

@[expose] public section

noncomputable section

open Idealize.ShloMosaic

namespace Cert.Mla

structure Inputs where
  q : Fin 5 → Fin 128 → Fin 512 → EReal
  qr : Fin 5 → Fin 128 → Fin 64 → EReal
  cache : Fin 5 → Fin 131072 → Rec
  len : Fin 5 → BitVec 32
  kn : Fin 5 → Fin 512 → EReal
  krn : Fin 5 → Fin 64 → EReal

namespace Inputs

/-- Off the seven arrays. -/
def of (X0 : FVec Ideal ⟨3, ![5, 1, 65536]⟩ .bf16) (X1 : FVec Ideal ⟨4, ![5, 1, 128, 64]⟩ .bf16) (X2 : IVec ⟨3, ![5, 131072, 656]⟩ 8)
    (X3 : IVec ⟨1, ![5]⟩ 32) (X4 : IVec ⟨3, ![5, 1, 512]⟩ 8) (X5 : FVec Ideal ⟨3, ![5, 1, 4]⟩ .f32) (X6 : FVec Ideal ⟨3, ![5, 1, 64]⟩ .bf16) : Inputs where
  q b h c := X0 (ix3 b 0 ⟨h.val * 512 + c.val, by omega⟩)
  qr b h r := X1 (ix4 b 0 h r)
  cache b t k := X2 (ix3 b t k)
  len b := X3 (ix1 b)
  kn b c := Ideal.ofBits .fp8e4m3 (X4 (ix3 b 0 c)) * X5 (ix3 b 0 ⟨c.val / 128, by omega⟩)
  krn b r := X6 (ix3 b 0 r)

variable (I : Inputs)

/-- A head's score of a cached token. -/
def s (b : Fin 5) (h : Fin 128) (t : Fin 131072) : EReal := score (I.q b h) (I.qr b h) (I.cache b t).latent (I.cache b t).rope

/-- A head's score of the new token. -/
def sn (b : Fin 5) (h : Fin 128) : EReal := score (I.q b h) (I.qr b h) (I.kn b) (I.krn b)

/-- A head's softmax row. -/
def row (b : Fin 5) (h : Fin 128) : Row where
  σ := (I.sn b h).toReal
  v₀ c := (I.kn b c).toReal
  r t := if ht : t < 131072 then (I.s b h ⟨t, ht⟩).toReal else 0
  v t c := if ht : t < 131072 then ((I.cache b ⟨t, ht⟩).latent c).toReal else 0
  n := (I.len b).toInt

/-- What the claim assumes of the inputs: every number the attention reads is real, and no length is near the end of
    the 32-bit range. -/
structure Good : Prop where
  q : ∀ b h c, ∃ x : ℝ, I.q b h c = x
  qr : ∀ b h r, ∃ x : ℝ, I.qr b h r = x
  kn : ∀ b c, ∃ x : ℝ, I.kn b c = x
  krn : ∀ b r, ∃ x : ℝ, I.krn b r = x
  latent : ∀ b (t : Fin 131072), (t.val : ℤ) < (I.len b).toInt → ∀ c, ∃ x : ℝ, (I.cache b t).latent c = x
  rope : ∀ b (t : Fin 131072), (t.val : ℤ) < (I.len b).toInt → ∀ r, ∃ x : ℝ, (I.cache b t).rope r = x
  len : ∀ b, (I.len b).toInt ≤ 2 ^ 31 - 2048

theorem score_real (q : Fin 512 → EReal) (qr : Fin 64 → EReal) (k : Fin 512 → EReal) (kr : Fin 64 → EReal) (hq : ∀ c, ∃ x : ℝ, q c = x)
    (hqr : ∀ r, ∃ x : ℝ, qr r = x) (hk : ∀ c, ∃ x : ℝ, k c = x) (hkr : ∀ r, ∃ x : ℝ, kr r = x) : ∃ x : ℝ, score q qr k kr = x := by
  obtain ⟨f, hf⟩ := factor_real
  obtain ⟨a, ha⟩ := sum_real Finset.univ (fun c => q c * k c) fun c _ => by
    obtain ⟨x, hx⟩ := hq c; obtain ⟨y, hy⟩ := hk c; exact ⟨x * y, by rw [hx, hy, EReal.coe_mul]⟩
  obtain ⟨a', ha'⟩ := sum_real Finset.univ (fun r => qr r * kr r) fun c _ => by
    obtain ⟨x, hx⟩ := hqr c; obtain ⟨y, hy⟩ := hkr c; exact ⟨x * y, by rw [hx, hy, EReal.coe_mul]⟩
  exact ⟨(a + a') * f, by unfold score; rw [ha, ha', hf, EReal.coe_mul, EReal.coe_add]⟩

variable {I}

theorem coe_toReal_of {x : EReal} (h : ∃ r : ℝ, x = r) : x = (x.toReal : EReal) := by obtain ⟨r, rfl⟩ := h; rfl

namespace Good

variable (hI : I.Good)

include hI

theorem sn_eq (b : Fin 5) (h : Fin 128) : I.sn b h = (I.row b h).σ :=
  coe_toReal_of (score_real _ _ _ _ (hI.q b h) (hI.qr b h) (hI.kn b) (hI.krn b))

theorem kn_eq (b : Fin 5) (h : Fin 128) (c : Fin 512) : I.kn b c = (I.row b h).v₀ c := coe_toReal_of (hI.kn b c)

theorem s_eq (b : Fin 5) (h : Fin 128) (t : Fin 131072) (ht : (t.val : ℤ) < (I.row b h).n) : I.s b h t = (I.row b h).r t.val := by
  refine (coe_toReal_of (score_real _ _ _ _ (hI.q b h) (hI.qr b h) (hI.latent b t ht) (hI.rope b t ht))).trans ?_
  show _ = ((if ht : t.val < 131072 then (I.s b h ⟨t.val, ht⟩).toReal else 0 : ℝ) : EReal)
  rw [dif_pos t.isLt]; rfl

theorem latent_eq (b : Fin 5) (h : Fin 128) (t : Fin 131072) (ht : (t.val : ℤ) < (I.row b h).n) (c : Fin 512) :
    (I.cache b t).latent c = (I.row b h).v t.val c := by
  refine (coe_toReal_of (hI.latent b t ht c)).trans ?_
  show _ = ((if ht : t.val < 131072 then ((I.cache b ⟨t.val, ht⟩).latent c).toReal else 0 : ℝ) : EReal)
  rw [dif_pos t.isLt]

end Good

variable (I)

/-- The attention's output. -/
def out (b : Fin 5) (h : Fin 128) (c : Fin 512) : EReal := (((I.row b h).W 131072 c / (I.row b h).Z 131072 : ℝ) : EReal)

/-- The log-weight, less the log of the number of tokens. -/
def lse (b : Fin 5) (h : Fin 128) : EReal :=
  ((Real.log ((I.row b h).Z 131072) : ℝ) : EReal) - Ideal.log ((((I.len b).toInt : ℝ) : EReal) + 1)

end Inputs

end Cert.Mla

end
-- ==== Proof.OkKernelIdeal.lean ====
/-
  The pipeline's side condition on the lengths, for `KernelIdeal`: whatever they are, every record block fetched lies
  inside the cache and moves in whole words.
-/
module

public import proofs.«01_k».proof.Proof.Gen.KernelIdeal.Frame
public import proofs.«01_k».proof.Proof.Words

@[expose] public section

set_option maxRecDepth 16384

open Idealize.ShloMosaic

namespace Cert.KernelIdeal

open Cert.KernelIdeal.Gen

variable {F : FTy → Type} [FloatOps F]

/-- The record block's index at a grid point. -/
theorem recIx (pf : pre0.Contents (Elt F)) (i : grid0.Coords) :
    cc0_transform_5 k0_off1_inb numel1_S1 pf i = ![(BitVec.ofNat 32 (i 0).val).toNat, 0,
      (Mla.recBlock (i 1).val (pf.at 0 (Rect.unit (s := S5) ![(BitVec.ofNat 32 (i 0).val).toNat] S1.size (k0_off1_inb i)) numel1_S1)).toNat] := rfl

theorem ok_aux (u v : ℕ) (hu : u < 5) (hv : v < 64) (a : Fin 3) : ((![u, 0, v] : Fin 3 → ℕ) a + 1) * S1x656x2048.size a ≤ S5x656x131072.size a := by
  fin_cases a
  · show (u + 1) * 1 ≤ 5; omega
  · show (0 + 1) * 656 ≤ 656; omega
  · show (v + 1) * 2048 ≤ 131072; omega

theorem ok (pf : pre0.Contents (Elt F)) : ok0 pf := by
  intro i
  have h0 : (i 0).val < 5 := (i 0).isLt
  have h1 : (i 1).val < 64 := (i 1).isLt
  have hb := Mla.recBlock_le (i 1).val h1 (pf.at 0 (Rect.unit (s := S5) ![(BitVec.ofNat 32 (i 0).val).toNat] S1.size (k0_off1_inb i)) numel1_S1)
  refine ⟨fun a => ?_, Or.inr (Or.inr ⟨(by decide : 2 ≤ 3), rfl, ?_, rfl⟩)⟩
  · rw [recIx]
    exact ok_aux _ _ (by rw [BitVec.toNat_ofNat, Nat.mod_eq_of_lt (by omega)]; exact h0) (by omega) a
  · have e := congrFun (recIx pf i) (1 : Fin 3)
    exact (congrArg (· * 656) e).trans rfl

end Cert.KernelIdeal
-- ==== Proof.Blocks.lean ====
/-
  The blocks a grid point reads, entry by entry, as the inputs: point `t` works on sequence `t / 64` and, while there
  are tokens left, on the records of its `t % 64`-th 2048 tokens.
-/
module

public import proofs.«01_k».proof.Proof.Chunk
public import proofs.«01_k».proof.Proof.Inputs
public import proofs.«01_k».proof.Proof.OkKernelIdeal
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.KernelIdeal.Value

open Cert.KernelIdeal Cert.KernelIdeal.Gen Cert.Mla

variable (m : (ℓ : Loc nD τ sig) → Buf (Elt Ideal) ℓ) (c : Dev nD)

/-- The inputs in memory. -/
def inputs : Inputs :=
  .of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-! ## The arrays the windows read -/

theorem entry_v1 (b : Fin 5) (h : Fin 128) (k : Fin 512) : V m c main_v1 (ix3 b h k) = (inputs m c).q b h k := by
  entry_read
  pointwise
  rfl

theorem entry_v2 (b : Fin 5) (h : Fin 128) (r : Fin 64) : V m c main_v2 (ix3 b h r) = (inputs m c).qr b h r := by
  entry_read
  pointwise
  rfl

theorem entry_v0 (b : Fin 5) (k : Fin 512) : V m c main_v0 (ix3 b 0 k) = Ideal.ofBits .fp8e4m3 (m ((c : Thread nD τ).loc main_arg4) (ix3 b 0 k)) := by
  entry_read
  rfl

theorem entry_v6 (b : Fin 5) (k : Fin 512) : V m c main_v6 (ix3 b 0 k) = m ((c : Thread nD τ).loc main_arg5) (ix3 b 0 ⟨k.val / 128, by omega⟩) := by
  entry_read
  pointwise

theorem entry_v7 (b : Fin 5) (k : Fin 656) (t : Fin 131072) : V m c main_v7 (ix3 b k t) = (inputs m c).cache b t k := by
  entry_read
  pointwise
  rfl

theorem entry_arg6 (b : Fin 5) (r : Fin 64) : V m c main_arg6 (ix3 b 0 r) = (inputs m c).krn b r := by
  rw [V_main_arg6]; rfl

theorem ext3 {d : Fin 3 → ℕ} (f g : Shape.Idx ⟨3, d⟩) (h0 : (f 0).val = (g 0).val) (h1 : (f 1).val = (g 1).val) (h2 : (f 2).val = (g 2).val) :
    f = g := funext fun a => Fin.ext (match a with | ⟨0, _⟩ => h0 | ⟨1, _⟩ => h1 | ⟨2, _⟩ => h2)

/-! ## The blocks -/

section Point

variable (t : Fin grid0.N) (b : Fin 5) (j : Fin 64) (ht : t.val = 64 * b.val + j.val)

include ht

theorem coord0 : (grid0.coords t 0).val = b.val := by
  rw [show (grid0.coords t 0).val = t.val / 64 % 5 from Pipeline.Grid.coords_val t 0 (by decide) rfl]; omega

theorem coord1 : (grid0.coords t 1).val = j.val := by
  rw [show (grid0.coords t 1).val = t.val / 1 % 64 from Pipeline.Grid.coords_val t 1 (by decide) rfl]; omega

theorem seq_word : (BitVec.ofNat 32 (grid0.coords t 0).val).toNat = b.val := by
  rw [coord0 t b j ht, BitVec.toNat_ofNat]; omega

/-- The length a point reads. -/
theorem len_eq : lenAt c (grid0.coords t) (tbl m 0) = (inputs m c).len b := by
  obtain rfl : c = 0 := Subsingleton.elim _ _
  show V m 0 main_arg3 _ = m _ _
  rw [V_main_arg3]
  congr 1; funext a; apply Fin.ext
  match a with
  | ⟨0, _⟩ => show (BitVec.ofNat 32 (grid0.coords t 0).val).toNat + 1 * 0 = b.val; rw [seq_word t b j ht]; omega

variable (hO : Ok m)

theorem blk0 (h : Fin 128) (k : Fin 512) : iblk m hO c 0 t (ix3 0 h k) = (inputs m c).q b h k := by
  refine Eq.trans ?_ (entry_v1 m c b h k)
  unfold iblk
  show V m c main_v1 _ = V m c main_v1 _
  congr 1; funext a; apply Fin.ext
  match a with
  | ⟨0, _⟩ => show (BitVec.ofNat 32 (grid0.coords t 0).val).toNat * 1 + 1 * 0 = b.val; rw [seq_word t b j ht]; omega
  | ⟨1, _⟩ => show 0 * 128 + 1 * h.val = h.val; omega
  | ⟨2, _⟩ => show 0 * 512 + 1 * k.val = k.val; omega

theorem blk1 (h : Fin 128) (k : Fin 64) : iblk m hO c 1 t (ix3 0 h k) = (inputs m c).qr b h k := by
  refine Eq.trans ?_ (entry_v2 m c b h k)
  unfold iblk
  show V m c main_v2 _ = V m c main_v2 _
  congr 1; funext a; apply Fin.ext
  match a with
  | ⟨0, _⟩ => show (BitVec.ofNat 32 (grid0.coords t 0).val).toNat * 1 + 1 * 0 = b.val; rw [seq_word t b j ht]; omega
  | ⟨1, _⟩ => show 0 * 128 + 1 * h.val = h.val; omega
  | ⟨2, _⟩ => show 0 * 64 + 1 * k.val = k.val; omega

theorem blk2 (k : Fin 512) : iblk m hO c 2 t (ix3 0 0 k) = Ideal.ofBits .fp8e4m3 (m ((c : Thread nD τ).loc main_arg4) (ix3 b 0 k)) := by
  refine Eq.trans ?_ (entry_v0 m c b k)
  unfold iblk
  show V m c main_v0 _ = V m c main_v0 _
  congr 1; funext a; apply Fin.ext
  match a with
  | ⟨0, _⟩ => show (BitVec.ofNat 32 (grid0.coords t 0).val).toNat * 1 + 1 * 0 = b.val; rw [seq_word t b j ht]; omega
  | ⟨1, _⟩ => show 0 * 1 + 1 * 0 = 0; omega
  | ⟨2, _⟩ => show 0 * 512 + 1 * k.val = k.val; omega

theorem blk3 (k : Fin 512) : iblk m hO c 3 t (ix3 0 0 k) = m ((c : Thread nD τ).loc main_arg5) (ix3 b 0 ⟨k.val / 128, by omega⟩) := by
  refine Eq.trans ?_ (entry_v6 m c b k)
  unfold iblk
  show V m c main_v6 _ = V m c main_v6 _
  congr 1; funext a; apply Fin.ext
  match a with
  | ⟨0, _⟩ => show (BitVec.ofNat 32 (grid0.coords t 0).val).toNat * 1 + 1 * 0 = b.val; rw [seq_word t b j ht]; omega
  | ⟨1, _⟩ => show 0 * 1 + 1 * 0 = 0; omega
  | ⟨2, _⟩ => show 0 * 512 + 1 * k.val = k.val; omega

theorem blk4 (r : Fin 64) : iblk m hO c 4 t (ix3 0 0 r) = (inputs m c).krn b r := by
  refine Eq.trans ?_ (entry_arg6 m c b r)
  unfold iblk
  show V m c main_arg6 _ = V m c main_arg6 _
  congr 1; funext a; apply Fin.ext
  match a with
  | ⟨0, _⟩ => show (BitVec.ofNat 32 (grid0.coords t 0).val).toNat * 1 + 1 * 0 = b.val; rw [seq_word t b j ht]; omega
  | ⟨1, _⟩ => show 0 * 1 + 1 * 0 = 0; omega
  | ⟨2, _⟩ => show 0 * 64 + 1 * r.val = r.val; omega

/-- While there are tokens left, the record block. -/
theorem idx5 (h1 : ((2048 * j.val : ℕ) : ℤ) < ((inputs m c).len b).toInt) (h2 : ((inputs m c).len b).toInt ≤ 2 ^ 31 - 2048) :
    ((cfgM m hO).win 5).index t = ![b.val, 0, j.val] := by
  have hl : (tbl m).at 0 (Rect.unit (s := S5) ![(BitVec.ofNat 32 (grid0.coords t 0).val).toNat] S1.size (k0_off1_inb (grid0.coords t))) numel1_S1
      = (inputs m c).len b := len_eq m c t b j ht
  show cc0_transform_5 k0_off1_inb numel1_S1 (tbl m) (grid0.coords t) = _
  rw [recIx, hl, seq_word t b j ht, coord1 t b j ht, recBlock_eq j.val j.isLt _ h1 h2]

/-- While there are tokens left, the records. -/
theorem blk5 (h1 : ((2048 * j.val : ℕ) : ℤ) < ((inputs m c).len b).toInt) (h2 : ((inputs m c).len b).toInt ≤ 2 ^ 31 - 2048)
    (k : Fin 656) (p : Fin 2048) :
    iblk m hO c 5 t (ix3 0 k p) = (inputs m c).cache b ⟨2048 * j.val + p.val, by omega⟩ k := by
  have hi := idx5 m c t b j ht hO h1 h2
  refine Eq.trans ?_ (entry_v7 m c b k ⟨2048 * j.val + p.val, by omega⟩)
  unfold iblk
  refine congrArg (V m c main_v7) (ext3 _ _ ?_ ?_ ?_)
  · refine (Pipeline.Window.rect_emb_val ((cfgM m hO).win 5) t (ix3 0 k p) (0 : Fin 3) rfl).trans ?_
    rw [hi]
    show b.val * 1 + 0 = b.val
    omega
  · refine (Pipeline.Window.rect_emb_val ((cfgM m hO).win 5) t (ix3 0 k p) (1 : Fin 3) rfl).trans ?_
    rw [hi]
    show 0 * 656 + k.val = k.val
    omega
  · refine (Pipeline.Window.rect_emb_val ((cfgM m hO).win 5) t (ix3 0 k p) (2 : Fin 3) rfl).trans ?_
    rw [hi]
    show j.val * 2048 + p.val = 2048 * j.val + p.val
    rw [Nat.mul_comm]

end Point

end Cert.KernelIdeal.Value

end
-- ==== Proof.KernelRun.lean ====
/-
  The kernel's run at ideal values: by induction over the grid's points, after each point the scratch holds every
  head's softmax state over the tokens seen so far; the last point of a sequence writes the quotient and the
  log-weight.
-/
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Mla

variable (m : (ℓ : Loc nD τ sig) → Buf (Elt Ideal) ℓ) (ρ : Dev nD → PrngReg) (hO : Ok m) (c : Dev nD)

/-! ## What a point leaves, case by case -/

section Cases

variable (t : Fin (cfgM m hO).N)

/-- What the point before left. -/
abbrev before := outsAt0 m hO c (t.val - 1) (Nat.lt_of_le_of_lt (Nat.sub_le _ _) t.isLt)

theorem mix_first (h0 : t.val % 64 = 0) (h1 : cond0_1 (grid0.coords t) (lenAt (F := Ideal) c (grid0.coords t) (tbl m 0))) :
    (outsAt0 m hO c t.val t.isLt).2.2.1 = stepMix (BitVec.ofNat 32 (grid0.coords t 1).val) (lenAt (F := Ideal) c (grid0.coords t) (tbl m 0)) (iblk m hO c 0 t) (iblk m hO c 1 t) (iblk m hO c 5 t)
      (col0 (k0_pay4 (iblk m hO c 0 t) (iblk m hO c 1 t) (iblk m hO c 2 t) (iblk m hO c 3 t) (iblk m hO c 4 t))) (k0_pay6 (iblk m hO c 2 t) (iblk m hO c 3 t)) := by
  rw [outsAt0_A m hO c t h0 h1 (by omega)]
  dsimp only
  exact sout_A_0 ..

theorem max_first (h0 : t.val % 64 = 0) (h1 : cond0_1 (grid0.coords t) (lenAt (F := Ideal) c (grid0.coords t) (tbl m 0))) :
    (outsAt0 m hO c t.val t.isLt).2.2.2.1 = spreadT (stepMax (BitVec.ofNat 32 (grid0.coords t 1).val) (lenAt (F := Ideal) c (grid0.coords t) (tbl m 0)) (iblk m hO c 0 t) (iblk m hO c 1 t) (iblk m hO c 5 t)
      (col0 (k0_pay4 (iblk m hO c 0 t) (iblk m hO c 1 t) (iblk m hO c 2 t) (iblk m hO c 3 t) (iblk m hO c 4 t)))) := by
  rw [outsAt0_A m hO c t h0 h1 (by omega)]
  dsimp only
  exact sout_A_1 ..

theorem sum_first (h0 : t.val % 64 = 0) (h1 : cond0_1 (grid0.coords t) (lenAt (F := Ideal) c (grid0.coords t) (tbl m 0))) :
    (outsAt0 m hO c t.val t.isLt).2.2.2.2 = spreadT (stepSum (BitVec.ofNat 32 (grid0.coords t 1).val) (lenAt (F := Ideal) c (grid0.coords t) (tbl m 0)) (iblk m hO c 0 t) (iblk m hO c 1 t) (iblk m hO c 5 t)
      (col0 (k0_pay4 (iblk m hO c 0 t) (iblk m hO c 1 t) (iblk m hO c 2 t) (iblk m hO c 3 t) (iblk m hO c 4 t))) (col0 (k0_pay5 (F := Ideal)))) := by
  rw [outsAt0_A m hO c t h0 h1 (by omega)]
  dsimp only
  exact sout_A_2 ..

theorem state_first_skip (h0 : t.val % 64 = 0) (h1 : ¬cond0_1 (grid0.coords t) (lenAt (F := Ideal) c (grid0.coords t) (tbl m 0))) :
    (outsAt0 m hO c t.val t.isLt).2.2 = (k0_pay6 (F := Ideal) (iblk m hO c 2 t) (iblk m hO c 3 t),
      k0_pay4 (F := Ideal) (iblk m hO c 0 t) (iblk m hO c 1 t) (iblk m hO c 2 t) (iblk m hO c 3 t) (iblk m hO c 4 t), k0_pay5 (F := Ideal)) := by
  rw [outsAt0_B m hO c t h0 h1 (by omega)]
  dsimp only
  exact congrArg₂ Prod.mk (sout_B_0 ..) (congrArg₂ Prod.mk (sout_B_1 ..) (sout_B_2 ..))

theorem mix_next (h0 : ¬t.val % 64 = 0) (h1 : cond0_1 (grid0.coords t) (lenAt (F := Ideal) c (grid0.coords t) (tbl m 0))) :
    (outsAt0 m hO c t.val t.isLt).2.2.1 = stepMix (BitVec.ofNat 32 (grid0.coords t 1).val) (lenAt (F := Ideal) c (grid0.coords t) (tbl m 0)) (iblk m hO c 0 t) (iblk m hO c 1 t) (iblk m hO c 5 t)
      (col0 (before m hO c t).2.2.2.1) (before m hO c t).2.2.1 := by
  by_cases h2 : t.val % 64 = 63
  · rw [outsAt0_E m hO c t h0 h1 h2]; dsimp only; exact sout_E_0 ..
  · rw [outsAt0_C m hO c t h0 h1 h2]; dsimp only; exact sout_C_0 ..

theorem max_next (h0 : ¬t.val % 64 = 0) (h1 : cond0_1 (grid0.coords t) (lenAt (F := Ideal) c (grid0.coords t) (tbl m 0))) :
    (outsAt0 m hO c t.val t.isLt).2.2.2.1 = spreadT (stepMax (BitVec.ofNat 32 (grid0.coords t 1).val) (lenAt (F := Ideal) c (grid0.coords t) (tbl m 0)) (iblk m hO c 0 t) (iblk m hO c 1 t) (iblk m hO c 5 t)
      (col0 (before m hO c t).2.2.2.1)) := by
  by_cases h2 : t.val % 64 = 63
  · rw [outsAt0_E m hO c t h0 h1 h2]; dsimp only; exact sout_E_1 ..
  · rw [outsAt0_C m hO c t h0 h1 h2]; dsimp only; exact sout_C_1 ..

theorem sum_next (h0 : ¬t.val % 64 = 0) (h1 : cond0_1 (grid0.coords t) (lenAt (F := Ideal) c (grid0.coords t) (tbl m 0))) :
    (outsAt0 m hO c t.val t.isLt).2.2.2.2 = spreadT (stepSum (BitVec.ofNat 32 (grid0.coords t 1).val) (lenAt (F := Ideal) c (grid0.coords t) (tbl m 0)) (iblk m hO c 0 t) (iblk m hO c 1 t) (iblk m hO c 5 t)
      (col0 (before m hO c t).2.2.2.1) (col0 (before m hO c t).2.2.2.2)) := by
  by_cases h2 : t.val % 64 = 63
  · rw [outsAt0_E m hO c t h0 h1 h2]; dsimp only; exact sout_E_2 ..
  · rw [outsAt0_C m hO c t h0 h1 h2]; dsimp only; exact sout_C_2 ..

theorem state_skip (h0 : ¬t.val % 64 = 0) (h1 : ¬cond0_1 (grid0.coords t) (lenAt (F := Ideal) c (grid0.coords t) (tbl m 0))) :
    (outsAt0 m hO c t.val t.isLt).2.2 = (before m hO c t).2.2 := by
  by_cases h2 : t.val % 64 = 63
  · rw [outsAt0_F m hO c t h0 h1 h2]; rfl
  · rw [outsAt0_D m hO c t h0 h1 h2]; rfl

/-- A sequence's last point writes the quotient of what it leaves … -/
theorem out_last (h2 : t.val % 64 = 63) :
    (outsAt0 m hO c t.val t.isLt).1 = k0_pay11 (col0 (outsAt0 m hO c t.val t.isLt).2.2.2.2) (outsAt0 m hO c t.val t.isLt).2.2.1 := by
  have h0 : ¬t.val % 64 = 0 := by omega
  by_cases h1 : cond0_1 (grid0.coords t) (lenAt (F := Ideal) c (grid0.coords t) (tbl m 0))
  · rw [sum_next m hO c t h0 h1, mix_next m hO c t h0 h1, outsAt0_E m hO c t h0 h1 h2]; dsimp only; exact out_E_6 ..
  · rw [state_skip m hO c t h0 h1, outsAt0_F m hO c t h0 h1 h2]; dsimp only; exact out_F_6 ..

/-- … and its log-weight. -/
theorem lse_last (h2 : t.val % 64 = 63) :
    (outsAt0 m hO c t.val t.isLt).2.1 = k0_pay12 (lenAt (F := Ideal) c (grid0.coords t) (tbl m 0)) (col0 (outsAt0 m hO c t.val t.isLt).2.2.2.2) (col0 (outsAt0 m hO c t.val t.isLt).2.2.2.1) := by
  have h0 : ¬t.val % 64 = 0 := by omega
  by_cases h1 : cond0_1 (grid0.coords t) (lenAt (F := Ideal) c (grid0.coords t) (tbl m 0))
  · rw [sum_next m hO c t h0 h1, max_next m hO c t h0 h1, outsAt0_E m hO c t h0 h1 h2]; dsimp only; exact out_E_7 ..
  · rw [state_skip m hO c t h0 h1, outsAt0_F m hO c t h0 h1 h2]; dsimp only; exact out_F_7 ..

end Cases

/-! ## The state after a point -/

variable (hI : (inputs m c).Good)

include hI

/-- A point with tokens left takes the state over the tokens before it to the state over its own too. -/
theorem step_state (t : Fin grid0.N) (b : Fin 5) (j : Fin 64) (ht : t.val = 64 * b.val + j.val)
    (h1 : cond0_1 (grid0.coords t) (lenAt (F := Ideal) c (grid0.coords t) (tbl m 0))) (h : Fin 128) (mo lo : Vec Ideal S128x1 .f32) (ao : Vec Ideal S128x512 .f32)
    (hs : ((inputs m c).row b h).Holds (2048 * j.val) (mo (ix2 h 0)) (lo (ix2 h 0)) fun c => ao (ix2 h c)) :
    ((inputs m c).row b h).Holds (2048 * j.val + 2048)
      (stepMax (BitVec.ofNat 32 (grid0.coords t 1).val) (lenAt (F := Ideal) c (grid0.coords t) (tbl m 0)) (iblk m hO c 0 t) (iblk m hO c 1 t) (iblk m hO c 5 t) mo (ix2 h 0))
      (stepSum (BitVec.ofNat 32 (grid0.coords t 1).val) (lenAt (F := Ideal) c (grid0.coords t) (tbl m 0)) (iblk m hO c 0 t) (iblk m hO c 1 t) (iblk m hO c 5 t) mo lo (ix2 h 0))
      fun k => stepMix (BitVec.ofNat 32 (grid0.coords t 1).val) (lenAt (F := Ideal) c (grid0.coords t) (tbl m 0)) (iblk m hO c 0 t) (iblk m hO c 1 t) (iblk m hO c 5 t) mo ao (ix2 h k) := by
  have h1' : ((2048 * j.val : ℕ) : ℤ) < ((inputs m c).len b).toInt := by
    rw [← guard_lt j.val j.isLt, ← len_eq m c t b j ht, ← coord1 t b j ht]; exact h1
  have e5 : ∀ p : Fin 2048, recOf (iblk m hO c 5 t) p = (inputs m c).cache b ⟨2048 * j.val + p.val, by omega⟩ := fun p =>
    funext fun k => blk5 m c t b j ht hO h1' (hI.len b) k p
  have e0 : (fun k => (iblk m hO c 0 t : Vec Ideal S1x128x512 .bf16) (ix3 0 h k)) = (inputs m c).q b h := funext fun k => blk0 m c t b j ht hO h k
  have e1 : (fun k => (iblk m hO c 1 t : Vec Ideal S1x128x64 .bf16) (ix3 0 h k)) = (inputs m c).qr b h := funext fun k => blk1 m c t b j ht hO h k
  rw [coord1 t b j ht, len_eq m c t b j ht]
  refine step_holds ((inputs m c).row b h) (iblk m hO c 0 t) (iblk m hO c 1 t) (iblk m hO c 5 t) j.val j.isLt ((inputs m c).len b) rfl h (fun p hp => ?_) (fun p k hp => ?_) mo lo ao hs
  · rw [e0, e1, e5]
    exact hI.s_eq b h ⟨2048 * j.val + p.val, by omega⟩ hp
  · rw [e5]
    exact hI.latent_eq b h ⟨2048 * j.val + p.val, by omega⟩ hp k

omit hI in
/-- The state a sequence starts from: the new token's. -/
theorem start_holds {I : Inputs} (hI : I.Good) (b : Fin 5) (h : Fin 128) (J : ℕ) (hJ : J = 0)
    (x0 : Vec Ideal S1x128x512 .bf16) (x1 : Vec Ideal S1x128x64 .bf16) (x2 : Vec Ideal S1x1x512 .fp8e4m3) (x3 : Vec Ideal S1x1x512 .f32) (x4 : Vec Ideal S1x1x64 .bf16)
    (e0 : ∀ k, x0 (ix3 0 h k) = I.q b h k) (e1 : ∀ k, x1 (ix3 0 h k) = I.qr b h k) (ek : ∀ k, x2 (ix3 0 0 k) * x3 (ix3 0 0 k) = I.kn b k)
    (e4 : ∀ k, x4 (ix3 0 0 k) = I.krn b k) :
    (I.row b h).Holds J (col0 (F := Ideal) (k0_pay4 (F := Ideal) x0 x1 x2 x3 x4) (ix2 h 0)) (col0 (F := Ideal) (k0_pay5 (F := Ideal)) (ix2 h 0))
      fun k => k0_pay6 (F := Ideal) x2 x3 (ix2 h k) := by
  subst hJ
  refine Row.holds_zero _ _ _ _ ?_ ?_ fun k => ?_
  · refine (pay4_apply x0 x1 x2 x3 x4 h 0).trans ?_
    rw [funext e0, funext e1, funext e4, funext ek]
    exact hI.sn_eq b h
  · exact pay5_apply ..
  · rw [pay6_apply, ek]
    exact hI.kn_eq b h k

theorem start_state (t : Fin grid0.N) (b : Fin 5) (j : Fin 64) (ht : t.val = 64 * b.val + j.val) (hj : j.val = 0) (h : Fin 128) :
    ((inputs m c).row b h).Holds (2048 * j.val) (col0 (F := Ideal) (k0_pay4 (F := Ideal) (iblk m hO c 0 t) (iblk m hO c 1 t) (iblk m hO c 2 t) (iblk m hO c 3 t) (iblk m hO c 4 t)) (ix2 h 0))
      (col0 (F := Ideal) (k0_pay5 (F := Ideal)) (ix2 h 0)) fun k => k0_pay6 (F := Ideal) (iblk m hO c 2 t) (iblk m hO c 3 t) (ix2 h k) :=
  start_holds hI b h _ (by omega) (iblk m hO c 0 t) (iblk m hO c 1 t) (iblk m hO c 2 t) (iblk m hO c 3 t) (iblk m hO c 4 t)
    (fun k => blk0 m c t b j ht hO h k) (fun k => blk1 m c t b j ht hO h k)
    (fun k => congrArg₂ (fun x y : EReal => x * y) (blk2 m c t b j ht hO k) (blk3 m c t b j ht hO k)) (fun k => blk4 m c t b j ht hO k)

/-- After every point each head's scratch is its state over the tokens up to that point's. -/
theorem state (n : ℕ) : ∀ (t : Fin (cfgM m hO).N), t.val = n → ∀ (b : Fin 5) (j : Fin 64), t.val = 64 * b.val + j.val → ∀ h : Fin 128,
    ((inputs m c).row b h).Holds (2048 * j.val + 2048) (col0 (outsAt0 m hO c t.val t.isLt).2.2.2.1 (ix2 h 0)) (col0 (outsAt0 m hO c t.val t.isLt).2.2.2.2 (ix2 h 0))
      fun k => (outsAt0 m hO c t.val t.isLt).2.2.1 (ix2 h k) := by
  induction n with
  | zero => ?_
  | succ n ih => ?_
  all_goals
    intro t hn b j ht h
    have hskip : ¬cond0_1 (grid0.coords t) (lenAt (F := Ideal) c (grid0.coords t) (tbl m 0)) → ((inputs m c).row b h).n ≤ ((2048 * j.val : ℕ) : ℤ) := fun h1 => by
      refine not_lt.mp fun h2 => h1 ?_
      have := (guard_lt j.val j.isLt ((inputs m c).len b)).mpr h2
      rw [← len_eq m c t b j ht, ← coord1 t b j ht] at this
      exact this
  · have hj : j.val = 0 := by omega
    have h0 : t.val % 64 = 0 := by omega
    have hs := start_state m hO c hI t b j ht hj h
    by_cases h1 : cond0_1 (grid0.coords t) (lenAt (F := Ideal) c (grid0.coords t) (tbl m 0))
    · rw [max_first m hO c t h0 h1, sum_first m hO c t h0 h1, mix_first m hO c t h0 h1, col0_spread, col0_spread]
      exact step_state m hO c hI t b j ht h1 h _ _ _ hs
    · rw [state_first_skip m hO c t h0 h1]
      exact hs.skip (by omega) (hskip h1)
  · by_cases hj : j.val = 0
    · have h0 : t.val % 64 = 0 := by omega
      have hs := start_state m hO c hI t b j ht hj h
      by_cases h1 : cond0_1 (grid0.coords t) (lenAt (F := Ideal) c (grid0.coords t) (tbl m 0))
      · rw [max_first m hO c t h0 h1, sum_first m hO c t h0 h1, mix_first m hO c t h0 h1, col0_spread, col0_spread]
        exact step_state m hO c hI t b j ht h1 h _ _ _ hs
      · rw [state_first_skip m hO c t h0 h1]
        exact hs.skip (by omega) (hskip h1)
    · have h0 : ¬t.val % 64 = 0 := by omega
      have hs := ih ⟨t.val - 1, Nat.lt_of_le_of_lt (Nat.sub_le _ _) t.isLt⟩ (by dsimp only; omega) b ⟨j.val - 1, by omega⟩ (by dsimp only; omega) h
      have e : 2048 * (⟨j.val - 1, by omega⟩ : Fin 64).val + 2048 = 2048 * j.val := by dsimp only; omega
      rw [e] at hs
      by_cases h1 : cond0_1 (grid0.coords t) (lenAt (F := Ideal) c (grid0.coords t) (tbl m 0))
      · rw [max_next m hO c t h0 h1, sum_next m hO c t h0 h1, mix_next m hO c t h0 h1, col0_spread, col0_spread]
        exact step_state m hO c hI t b j ht h1 h _ _ _ hs
      · rw [state_skip m hO c t h0 h1]
        exact hs.skip (by omega) (hskip h1)

/-- What a sequence's last point writes: the attention's output … -/
theorem out_point (t : Fin (cfgM m hO).N) (b : Fin 5) (ht : t.val = 64 * b.val + 63) (h : Fin 128) (k : Fin 512) :
    (outsAt0 m hO c t.val t.isLt).1 (ix3 0 h k) = (inputs m c).out b h k := by
  rw [out_last m hO c t (by omega)]
  refine (pay11_apply _ _ h k).trans ?_
  exact (state m hO c hI t.val t rfl b 63 ht h).quotient k

/-- … and its log-weight. -/
theorem lse_point (t : Fin (cfgM m hO).N) (b : Fin 5) (ht : t.val = 64 * b.val + 63) (h : Fin 128) :
    (outsAt0 m hO c t.val t.isLt).2.1 (ix3 0 h 0) = (inputs m c).lse b h := by
  rw [lse_last m hO c t (by omega), len_eq m c t b 63 ht]
  refine (pay12_apply _ _ _ h).trans ?_
  rw [(state m hO c hI t.val t rfl b 63 ht h).logWeight]
  rfl

end Cert.KernelIdeal.Value

end
-- ==== Proof.KernelFinal.lean ====
/-
  The kernel's results at ideal values: the attention's output and log-weight of every sequence and head.
-/
module

public import proofs.«01_k».proof.Proof.KernelRun
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Mla

variable (m : (ℓ : Loc nD τ sig) → Buf (Elt Ideal) ℓ) (ρ : Dev nD → PrngReg) (hO : Ok m)

/-- The output array. -/
def outBuf (I : Inputs) : Vec Ideal S5x128x512 .bf16 := fun i => I.out (i 0) (i 1) (i 2)

/-- The log-weight array. -/
def lseBuf (I : Inputs) : Vec Ideal S5x128x1 .f32 := fun i => I.lse (i 0) (i 1)

variable (c : Dev nD) (hI : (inputs m c).Good)

/-- Where an entry of a point's output block sits in the array. -/
theorem out_emb (t : Fin (cfgM m hO).N) (b : Fin 5) (ht : t.val = 64 * b.val + 63) (h : Fin 128) (k : Fin 512) :
    (((cfgM m hO).win 6).blk t).view.emb (ix3 0 h k) = (ix3 b h k : S5x128x512.Idx) := by
  refine ext3 _ _ ?_ ?_ ?_
  · refine (Pipeline.Window.rect_emb_val ((cfgM m hO).win 6) t (ix3 0 h k) (0 : Fin 3) rfl).trans ?_
    show (BitVec.ofNat 32 (grid0.coords t 0).val).toNat * 1 + 0 = b.val
    rw [seq_word t b 63 ht]; omega
  · refine (Pipeline.Window.rect_emb_val ((cfgM m hO).win 6) t (ix3 0 h k) (1 : Fin 3) rfl).trans ?_
    show 0 * 128 + h.val = h.val
    omega
  · refine (Pipeline.Window.rect_emb_val ((cfgM m hO).win 6) t (ix3 0 h k) (2 : Fin 3) rfl).trans ?_
    show 0 * 512 + k.val = k.val
    omega

theorem lse_emb (t : Fin (cfgM m hO).N) (b : Fin 5) (ht : t.val = 64 * b.val + 63) (h : Fin 128) :
    (((cfgM m hO).win 7).blk t).view.emb (ix3 0 h 0) = (ix3 b h 0 : S5x128x1.Idx) := by
  refine ext3 _ _ ?_ ?_ ?_
  · refine (Pipeline.Window.rect_emb_val ((cfgM m hO).win 7) t (ix3 0 h 0) (0 : Fin 3) rfl).trans ?_
    show (BitVec.ofNat 32 (grid0.coords t 0).val).toNat * 1 + 0 = b.val
    rw [seq_word t b 63 ht]; omega
  · refine (Pipeline.Window.rect_emb_val ((cfgM m hO).win 7) t (ix3 0 h 0) (1 : Fin 3) rfl).trans ?_
    show 0 * 128 + h.val = h.val
    omega
  · refine (Pipeline.Window.rect_emb_val ((cfgM m hO).win 7) t (ix3 0 h 0) (2 : Fin 3) rfl).trans ?_
    show 0 * 1 + 0 = 0
    omega

/-- A sequence's last point. -/
noncomputable def lastPoint (b : Fin 5) : Fin (cfgM m hO).N := ⟨64 * b.val + 63, by have : (cfgM m hO).N = 320 := N_0; omega⟩

theorem out_mem (i : S5x128x512.Idx) : i ∈ (((cfgM m hO).win 6).blk (lastPoint m hO (i 0))).view.set := by
  have e : (((cfgM m hO).win 6).blk (lastPoint m hO (i 0))).view.emb (ix3 0 (i 1) (i 2)) = i :=
    (out_emb m hO (lastPoint m hO (i 0)) (i 0) rfl (i 1) (i 2)).trans (ext3 (ix3 (i 0) (i 1) (i 2)) i rfl rfl rfl)
  have := View.emb_mem_set (((cfgM m hO).win 6).blk (lastPoint m hO (i 0))).view (ix3 0 (i 1) (i 2))
  rwa [e] at this

theorem lse_mem (i : S5x128x1.Idx) : i ∈ (((cfgM m hO).win 7).blk (lastPoint m hO (i 0))).view.set := by
  have h2 : (i 2).val < 1 := (i 2).isLt
  have e : (((cfgM m hO).win 7).blk (lastPoint m hO (i 0))).view.emb (ix3 0 (i 1) 0) = i :=
    (lse_emb m hO (lastPoint m hO (i 0)) (i 0) rfl (i 1)).trans (ext3 (ix3 (i 0) (i 1) 0) i rfl rfl (Nat.lt_one_iff.mp h2).symm)
  have := View.emb_mem_set (((cfgM m hO).win 7).blk (lastPoint m hO (i 0))).view (ix3 0 (i 1) 0)
  rwa [e] at this

include hI

theorem out_read (t : Fin (cfgM m hO).N) (hf : ((cfgM m hO).win 6).flush t = true) (y : S1x128x512.Idx) :
    (outsAt0 m hO c t.val t.isLt).1 y = outBuf (inputs m c) ((((cfgM m hO).win 6).blk t).view.emb y) := by
  have hN : t.val < 320 := Nat.lt_of_lt_of_eq t.isLt N_0
  have h2 := (flush0_6 (adm m hO) t).mp hf
  have ht : t.val = 64 * (⟨t.val / 64, by omega⟩ : Fin 5).val + 63 := by dsimp only; omega
  obtain ⟨h, k, rfl⟩ : ∃ (h : Fin 128) (k : Fin 512), y = ix3 0 h k := ⟨y 1, y 2, ext3 _ _ (by have : (y 0).val < 1 := (y 0).isLt; show (y 0).val = 0; omega) rfl rfl⟩
  rw [out_point m hO c hI t _ ht h k, out_emb m hO t _ ht h k]
  rfl

theorem lse_read (t : Fin (cfgM m hO).N) (hf : ((cfgM m hO).win 7).flush t = true) (y : S1x128x1.Idx) :
    (outsAt0 m hO c t.val t.isLt).2.1 y = lseBuf (inputs m c) ((((cfgM m hO).win 7).blk t).view.emb y) := by
  have hN : t.val < 320 := Nat.lt_of_lt_of_eq t.isLt N_0
  have h2 := (flush0_7 (adm m hO) t).mp hf
  have ht : t.val = 64 * (⟨t.val / 64, by omega⟩ : Fin 5).val + 63 := by dsimp only; omega
  obtain ⟨h, rfl⟩ : ∃ h : Fin 128, y = ix3 0 h 0 := ⟨y 1, ext3 _ _ (by have : (y 0).val < 1 := (y 0).isLt; show (y 0).val = 0; omega) rfl
    (by have : (y 2).val < 1 := (y 2).isLt; show (y 2).val = 0; omega)⟩
  rw [lse_point m hO c hI t _ ht h, lse_emb m hO t _ ht h]
  rfl

theorem final_out : (dats m hO 0 c).arrAt 6 (cfgM m hO).N = outBuf (inputs m c) :=
  (dats m hO 0 c).arrAt_eq_of_emb 6 (outBuf (inputs m c)) (fun t hf y => by rw [after0_6]; exact out_read m hO c hI t hf y) fun i =>
    ⟨lastPoint m hO (i (0 : Fin 3)), (flush0_6 (adm m hO) _).mpr (show (64 * _ + 63) % 64 = 63 by omega), out_mem m hO i⟩

theorem final_lse : (dats m hO 0 c).arrAt 7 (cfgM m hO).N = lseBuf (inputs m c) :=
  (dats m hO 0 c).arrAt_eq_of_emb 7 (lseBuf (inputs m c)) (fun t hf y => by rw [after0_7]; exact lse_read m hO c hI t hf y) fun i =>
    ⟨lastPoint m hO (i (0 : Fin 3)), (flush0_7 (adm m hO) _).mpr (show (64 * _ + 63) % 64 = 63 by omega), lse_mem m hO i⟩

omit hI

include hO in
/-- The run: on inputs as assumed, the two arrays hold the attention's output and log-weight. -/
theorem run (hI : ∀ c, (inputs m c).Good) : θ_run defs (onTc (τ := τ) (main (F := Ideal))) ⟨m, fun _ => 0, ρ⟩ fun r => ∀ c : Dev nD,
      r.2.mem ((c : Thread nD τ).loc main_v8_0) = outBuf (inputs m c)
      ∧ r.2.mem ((c : Thread nD τ).loc main_v8_1) = lseBuf (inputs m c) :=
  (θ_run defs _ _).mono (fun _ h c => ⟨((h c).1 6).trans (final_out m hO c (hI c)), ((h c).1 7).trans (final_lse m hO c (hI c))⟩)
    (run_main m ρ hO)

end Cert.KernelIdeal.Value

end
-- ==== Proof.ReferenceOps.lean ====
/-
  The reference's host operations after its region, in eleven named steps over the arrays they read.
-/
module

public import proofs.«01_k».proof.Proof.Gen.ReferenceIdeal.Frame
public import proofs.«01_k».proof.Proof.Inputs
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Mla

/-- The dequantized cache: a token's codes times its scales. -/
def kv (v3_0 : FVec Ideal S5x131072x512 .bf16) (arg2 : IVec S5x131072x656 8) : FVec Ideal S5x131072x512 .bf16 :=
  have v10 : FVec Ideal S5x131072x4x128 .bf16 := shapeCast S5x131072x4x128 v3_0 shapeCasts_S5x131072x512_S5x131072x4x128
  have v4 : IVec S5x131072x16 8 := extractStridedSlice S5x131072x16 ![0, 0, 512] arg2 slices_S5x131072x656_S5x131072x16_0_0_512
  have v5 : IVec S5x131072x4x4 8 := shapeCast S5x131072x4x4 v4 shapeCasts_S5x131072x16_S5x131072x4x4
  have v6 : FVec Ideal S5x131072x4 .f32 := bitcastToFloat .f32 (Host.bitcastConvertWiden S5x131072x4 32 v5 splits_S5x131072x4_w32_S5x131072x4x4_w8)
  have v11 : FVec Ideal S5x131072x4 .bf16 := truncf .bf16 v6 bitsLt_bf16_f32
  have v12 : FVec Ideal S5x131072x4x1 .bf16 := broadcastInDim S5x131072x4x1 ![0, 1, 2] bcast_S5x131072x4_S5x131072x4x1_0_1_2 v11
  have v13 : FVec Ideal S5x131072x4x128 .bf16 := broadcastInDim S5x131072x4x128 ![0, 1, 2, 3] bcast_S5x131072x4x1_S5x131072x4x128_0_1_2_3 v12
  have v14 : FVec Ideal S5x131072x4x128 .bf16 := mulf v10 v13
  have v15 : FVec Ideal S5x131072x512 .bf16 := shapeCast S5x131072x512 v14 shapeCasts_S5x131072x4x128_S5x131072x512
  v15

/-- The rotary part of the cache. -/
def rope (arg2 : IVec S5x131072x656 8) : FVec Ideal S5x131072x64 .bf16 :=
  have v7 : IVec S5x131072x128 8 := extractStridedSlice S5x131072x128 ![0, 0, 528] arg2 slices_S5x131072x656_S5x131072x128_0_0_528
  have v8 : IVec S5x131072x64x2 8 := shapeCast S5x131072x64x2 v7 shapeCasts_S5x131072x128_S5x131072x64x2
  have v9 : FVec Ideal S5x131072x64 .bf16 := bitcastToFloat .bf16 (Host.bitcastConvertWiden S5x131072x64 16 v8 splits_S5x131072x64_w16_S5x131072x64x2_w8)
  v9

/-- The dequantized new token. -/
def kvNew (v3_1 : FVec Ideal S5x1x512 .bf16) (arg5 : FVec Ideal S5x1x4 .f32) : FVec Ideal S5x1x512 .bf16 :=
  have v16 : FVec Ideal S5x1x4x128 .bf16 := shapeCast S5x1x4x128 v3_1 shapeCasts_S5x1x512_S5x1x4x128
  have v17 : FVec Ideal S5x1x4 .bf16 := truncf .bf16 arg5 bitsLt_bf16_f32
  have v18 : FVec Ideal S5x1x4x1 .bf16 := broadcastInDim S5x1x4x1 ![0, 1, 2] bcast_S5x1x4_S5x1x4x1_0_1_2 v17
  have v19 : FVec Ideal S5x1x4x128 .bf16 := broadcastInDim S5x1x4x128 ![0, 1, 2, 3] bcast_S5x1x4x1_S5x1x4x128_0_1_2_3 v18
  have v20 : FVec Ideal S5x1x4x128 .bf16 := mulf v16 v19
  have v21 : FVec Ideal S5x1x512 .bf16 := shapeCast S5x1x512 v20 shapeCasts_S5x1x4x128_S5x1x512
  v21

/-- The scores against the cache. -/
def scores (v1 : FVec Ideal S5x1x128x512 .bf16) (v15 : FVec Ideal S5x131072x512 .bf16) (arg1 : FVec Ideal S5x1x128x64 .bf16) (v9 : FVec Ideal S5x131072x64 .bf16) : FVec Ideal S5x1x128x131072 .f32 :=
  have v22 : FVec Ideal S5x1x128x131072 .f32 := Host.dotGeneral dot_S5x1x128x512_S5x131072x512_S5x1x128x131072_3_2_12_1_0_0 none v1 v15
  have v23 : FVec Ideal S5x1x128x131072 .f32 := Host.dotGeneral dot_S5x1x128x64_S5x131072x64_S5x1x128x131072_3_2_12_1_0_0 none arg1 v9
  have v24 : FVec Ideal S5x1x128x131072 .f32 := addf v22 v23
  have cst : FVec Ideal S_ .f32 := constant S_ .f32 0x3D93CD3A#32
  have v25 : FVec Ideal S5x1x128x131072 .f32 := broadcastInDim S5x1x128x131072 ![] bcast_S_S5x1x128x131072 cst
  have v26 : FVec Ideal S5x1x128x131072 .f32 := mulf v24 v25
  v26

/-- The scores against the new token. -/
def scoreNew (v1 : FVec Ideal S5x1x128x512 .bf16) (v21 : FVec Ideal S5x1x512 .bf16) (arg1 : FVec Ideal S5x1x128x64 .bf16) (arg6 : FVec Ideal S5x1x64 .bf16) : FVec Ideal S5x1x128 .f32 :=
  have v27 : FVec Ideal S5x1x128 .f32 := Host.dotGeneral dot_S5x1x128x512_S5x1x512_S5x1x128_3_2_2_n_01_01 none v1 v21
  have v28 : FVec Ideal S5x1x128 .f32 := Host.dotGeneral dot_S5x1x128x64_S5x1x64_S5x1x128_3_2_2_n_01_01 none arg1 arg6
  have v29 : FVec Ideal S5x1x128 .f32 := addf v27 v28
  have cst0 : FVec Ideal S_ .f32 := constant S_ .f32 0x3D93CD3A#32
  have v30 : FVec Ideal S5x1x128 .f32 := broadcastInDim S5x1x128 ![] bcast_S_S5x1x128 cst0
  have v31 : FVec Ideal S5x1x128 .f32 := mulf v29 v30
  v31

/-- Which tokens of the cache are in use. -/
def mask (arg3 : IVec S5 32) : IVec S5x1x1x131072 1 :=
  have v32 : IVec S131072 32 := iotaInDim S131072 32 0
  have v33 : IVec S1x131072 32 := broadcastInDim S1x131072 ![1] bcast_S131072_S1x131072_1 v32
  have v35 : IVec S5x131072 32 := broadcastInDim S5x131072 ![0, 1] bcast_S1x131072_S5x131072_0_1 v33
  have v34 : IVec S5x1 32 := broadcastInDim S5x1 ![0] bcast_S5_S5x1_0 arg3
  have v36 : IVec S5x131072 32 := broadcastInDim S5x131072 ![0, 1] bcast_S5x1_S5x131072_0_1 v34
  have v37 : IVec S5x131072 1 := cmpi .slt v35 v36
  have v38 : IVec S5x1x1x131072 1 := broadcastInDim S5x1x1x131072 ![0, 3] bcast_S5x131072_S5x1x1x131072_0_3 v37
  v38

/-- The scores with the tokens not in use left out. -/
def masked (v38 : IVec S5x1x1x131072 1) (v26 : FVec Ideal S5x1x128x131072 .f32) : FVec Ideal S5x1x128x131072 .f32 :=
  have c0v1 : IVec S5x1x128x131072 1 := broadcastInDim S5x1x128x131072 ![0, 1, 2, 3] bcast_S5x1x1x131072_S5x1x128x131072_0_1_2_3 v38
  have cst1 : FVec Ideal S_ .f32 := constant S_ .f32 0xFF800000#32
  have c0v2 : FVec Ideal S5x1x128x131072 .f32 := broadcastInDim S5x1x128x131072 ![] bcast_S_S5x1x128x131072 cst1
  have v39 : FVec Ideal S5x1x128x131072 .f32 := select c0v1 v26 c0v2
  v39

/-- The greatest score of each head. -/
def top (v39 : FVec Ideal S5x1x128x131072 .f32) (v31 : FVec Ideal S5x1x128 .f32) : FVec Ideal S5x1x128 .f32 :=
  have cst2 : FVec Ideal S_ .f32 := constant S_ .f32 0xFF800000#32
  have v40 : FVec Ideal S5x1x128 .f32 := Host.reduce FloatOps.maximumf v39 cst2 reducesTo_S5x1x128x131072_S5x1x128_d3 h_S_
  have v41 : FVec Ideal S5x1x128 .f32 := maximumf v40 v31
  v41

/-- The sum of the exponentials. -/
def total (v39 : FVec Ideal S5x1x128x131072 .f32) (v31 : FVec Ideal S5x1x128 .f32) (v41 : FVec Ideal S5x1x128 .f32) : FVec Ideal S5x1x128 .f32 :=
  have v42 : FVec Ideal S5x1x128x1 .f32 := broadcastInDim S5x1x128x1 ![0, 1, 2] bcast_S5x1x128_S5x1x128x1_0_1_2 v41
  have v43 : FVec Ideal S5x1x128x131072 .f32 := broadcastInDim S5x1x128x131072 ![0, 1, 2, 3] bcast_S5x1x128x1_S5x1x128x131072_0_1_2_3 v42
  have v44 : FVec Ideal S5x1x128x131072 .f32 := subf v39 v43
  have v45 : FVec Ideal S5x1x128x131072 .f32 := Host.exp v44
  have cst3 : FVec Ideal S_ .f32 := constant S_ .f32 0x00000000#32
  have v48 : FVec Ideal S5x1x128 .f32 := Host.reduceAdd v45 cst3 reducesTo_S5x1x128x131072_S5x1x128_d3 h_S_
  have v46 : FVec Ideal S5x1x128 .f32 := subf v31 v41
  have v47 : FVec Ideal S5x1x128 .f32 := Host.exp v46
  have v49 : FVec Ideal S5x1x128 .f32 := addf v48 v47
  v49

/-- The attention's output. -/
def mixed (v39 : FVec Ideal S5x1x128x131072 .f32) (v31 : FVec Ideal S5x1x128 .f32) (v41 : FVec Ideal S5x1x128 .f32) (v49 : FVec Ideal S5x1x128 .f32) (v15 : FVec Ideal S5x131072x512 .bf16) (v21 : FVec Ideal S5x1x512 .bf16) : FVec Ideal S5x128x512 .bf16 :=
  have v42 : FVec Ideal S5x1x128x1 .f32 := broadcastInDim S5x1x128x1 ![0, 1, 2] bcast_S5x1x128_S5x1x128x1_0_1_2 v41
  have v43 : FVec Ideal S5x1x128x131072 .f32 := broadcastInDim S5x1x128x131072 ![0, 1, 2, 3] bcast_S5x1x128x1_S5x1x128x131072_0_1_2_3 v42
  have v44 : FVec Ideal S5x1x128x131072 .f32 := subf v39 v43
  have v45 : FVec Ideal S5x1x128x131072 .f32 := Host.exp v44
  have v50 : FVec Ideal S5x1x128x1 .f32 := broadcastInDim S5x1x128x1 ![0, 1, 2] bcast_S5x1x128_S5x1x128x1_0_1_2 v49
  have v51 : FVec Ideal S5x1x128x131072 .f32 := broadcastInDim S5x1x128x131072 ![0, 1, 2, 3] bcast_S5x1x128x1_S5x1x128x131072_0_1_2_3 v50
  have v52 : FVec Ideal S5x1x128x131072 .f32 := Host.divf v45 v51
  have v53 : FVec Ideal S5x1x128x131072 .bf16 := truncf .bf16 v52 bitsLt_bf16_f32
  have v65 : FVec Ideal S5x1x128x512 .f32 := Host.dotGeneral dot_S5x1x128x131072_S5x131072x512_S5x1x128x512_3_1_12_2_0_0 none v53 v15
  have v46 : FVec Ideal S5x1x128 .f32 := subf v31 v41
  have v47 : FVec Ideal S5x1x128 .f32 := Host.exp v46
  have v54 : FVec Ideal S5x1x128 .f32 := Host.divf v47 v49
  have v55 : FVec Ideal S5x1x128 .bf16 := truncf .bf16 v54 bitsLt_bf16_f32
  have v66 : FVec Ideal S5x1x128 .f32 := extf .f32 v55 bitsLt_bf16_f32
  have v67 : FVec Ideal S5x1x128x1 .f32 := broadcastInDim S5x1x128x1 ![0, 1, 2] bcast_S5x1x128_S5x1x128x1_0_1_2 v66
  have v70 : FVec Ideal S5x1x128x512 .f32 := broadcastInDim S5x1x128x512 ![0, 1, 2, 3] bcast_S5x1x128x1_S5x1x128x512_0_1_2_3 v67
  have v68 : FVec Ideal S5x1x512 .f32 := extf .f32 v21 bitsLt_bf16_f32
  have v69 : FVec Ideal S5x1x1x512 .f32 := broadcastInDim S5x1x1x512 ![0, 1, 3] bcast_S5x1x512_S5x1x1x512_0_1_3 v68
  have v71 : FVec Ideal S5x1x128x512 .f32 := broadcastInDim S5x1x128x512 ![0, 1, 2, 3] bcast_S5x1x1x512_S5x1x128x512_0_1_2_3 v69
  have v72 : FVec Ideal S5x1x128x512 .f32 := mulf v70 v71
  have v73 : FVec Ideal S5x1x128x512 .f32 := addf v65 v72
  have v74 : FVec Ideal S5x128x512 .f32 := shapeCast S5x128x512 v73 shapeCasts_S5x1x128x512_S5x128x512
  have v75 : FVec Ideal S5x128x512 .bf16 := truncf .bf16 v74 bitsLt_bf16_f32
  v75

/-- The log-weight. -/
def logWeight (v41 : FVec Ideal S5x1x128 .f32) (v49 : FVec Ideal S5x1x128 .f32) (arg3 : IVec S5 32) : FVec Ideal S5x128x1 .f32 :=
  have v56 : FVec Ideal S5x1x128 .f32 := Host.log v49
  have v57 : FVec Ideal S5x1x128 .f32 := addf v41 v56
  have v58 : FVec Ideal S5 .f32 := sitofp .f32 arg3
  have cst4 : FVec Ideal S_ .f32 := constant S_ .f32 0x3F800000#32
  have v59 : FVec Ideal S5 .f32 := broadcastInDim S5 ![] bcast_S_S5 cst4
  have v60 : FVec Ideal S5 .f32 := addf v58 v59
  have v61 : FVec Ideal S5 .f32 := Host.log v60
  have v62 : FVec Ideal S5x1x1 .f32 := broadcastInDim S5x1x1 ![0] bcast_S5_S5x1x1_0 v61
  have v63 : FVec Ideal S5x1x128 .f32 := broadcastInDim S5x1x128 ![0, 1, 2] bcast_S5x1x1_S5x1x128_0_1_2 v62
  have v64 : FVec Ideal S5x1x128 .f32 := subf v57 v63
  have v76 : FVec Ideal S5x128x1 .f32 := shapeCast S5x128x1 v64 shapeCasts_S5x1x128_S5x128x1
  v76

variable (V : Valuation τ sig (Elt Ideal))

/-- After the first operations: the dequantized cache, -/
theorem after_v15 : StableHlo.after hostOps1 V (main_v16 : DevRef τ sig) = kv (V (main_v4_0 : DevRef τ sig)) (V (main_arg2 : DevRef τ sig)) := by
  after_results
  rfl
/-- the dequantized new token, -/
theorem after_v21 : StableHlo.after hostOps1 V (main_v22 : DevRef τ sig) = kvNew (V (main_v4_1 : DevRef τ sig)) (V (main_arg5 : DevRef τ sig)) := by
  after_results
  rfl
/-- the scores against the cache, -/
theorem after_v26 : StableHlo.after hostOps1 V (main_v27 : DevRef τ sig)
    = scores (V (main_v1 : DevRef τ sig)) (kv (V (main_v4_0 : DevRef τ sig)) (V (main_arg2 : DevRef τ sig))) (V (main_arg1 : DevRef τ sig))
      (rope (V (main_arg2 : DevRef τ sig))) := by
  after_results
  rfl
/-- the scores against the new token, -/
theorem after_v31 : StableHlo.after hostOps1 V (main_v32 : DevRef τ sig)
    = scoreNew (V (main_v1 : DevRef τ sig)) (kvNew (V (main_v4_1 : DevRef τ sig)) (V (main_arg5 : DevRef τ sig))) (V (main_arg1 : DevRef τ sig))
      (V (main_arg6 : DevRef τ sig)) := by
  after_results
  rfl
/-- the tokens in use, -/
theorem after_v38 : StableHlo.after hostOps1 V (main_v39 : DevRef τ sig) = mask (V (main_arg3 : DevRef τ sig)) := by
  after_results
  rfl
/-- the value of a score left out, -/
theorem after_cst : StableHlo.after hostOps1 V (main_cst_1 : DevRef τ sig) = (constant S_ .f32 0xFF800000#32 : FVec Ideal S_ .f32) := by
  after_results
/-- and the lengths, as they were. -/
theorem after_arg3 : StableHlo.after hostOps1 V (main_arg3 : DevRef τ sig) = V (main_arg3 : DevRef τ sig) := by
  after_results

/-- The masking leaves the masked scores, -/
theorem after_v39 (h : V (main_cst_1 : DevRef τ sig) = (constant S_ .f32 0xFF800000#32 : FVec Ideal S_ .f32)) :
    StableHlo.after hostOps1_1 V (main_v40 : DevRef τ sig) = masked (V (main_v39 : DevRef τ sig)) (V (main_v27 : DevRef τ sig)) := by
  after_results
  rw [h]
  rfl
/-- and all else as it was. -/
theorem keep1_v15 : StableHlo.after hostOps1_1 V (main_v16 : DevRef τ sig) = V (main_v16 : DevRef τ sig) := by after_results
theorem keep1_v21 : StableHlo.after hostOps1_1 V (main_v22 : DevRef τ sig) = V (main_v22 : DevRef τ sig) := by after_results
theorem keep1_v31 : StableHlo.after hostOps1_1 V (main_v32 : DevRef τ sig) = V (main_v32 : DevRef τ sig) := by after_results
theorem keep1_arg3 : StableHlo.after hostOps1_1 V (main_arg3 : DevRef τ sig) = V (main_arg3 : DevRef τ sig) := by after_results

/-- After the last operations: the output -/
theorem after_v75 : StableHlo.after hostOps1_2 V (main_v76 : DevRef τ sig)
    = mixed (V (main_v40 : DevRef τ sig)) (V (main_v32 : DevRef τ sig)) (top (V (main_v40 : DevRef τ sig)) (V (main_v32 : DevRef τ sig)))
      (total (V (main_v40 : DevRef τ sig)) (V (main_v32 : DevRef τ sig)) (top (V (main_v40 : DevRef τ sig)) (V (main_v32 : DevRef τ sig))))
      (V (main_v16 : DevRef τ sig)) (V (main_v22 : DevRef τ sig)) := by
  after_results
  rfl
/-- and the log-weight. -/
theorem after_v76 : StableHlo.after hostOps1_2 V (main_v77 : DevRef τ sig)
    = logWeight (top (V (main_v40 : DevRef τ sig)) (V (main_v32 : DevRef τ sig)))
      (total (V (main_v40 : DevRef τ sig)) (V (main_v32 : DevRef τ sig)) (top (V (main_v40 : DevRef τ sig)) (V (main_v32 : DevRef τ sig))))
      (V (main_arg3 : DevRef τ sig)) := by
  after_results
  rfl

/-- The three lines of operations, one after another. -/
theorem after_tail : StableHlo.after (List.flatten [hostOps1, hostOps1_1, hostOps1_2]) V
    = StableHlo.after hostOps1_2 (StableHlo.after hostOps1_1 (StableHlo.after hostOps1 V)) := rfl

variable (X2 : IVec S5x131072x656 8) (X5 : FVec Ideal S5x1x4 .f32) (X6 : FVec Ideal S5x1x64 .bf16) (X3 : IVec S5 32)
  (q : FVec Ideal S5x1x128x512 .bf16) (X1 : FVec Ideal S5x1x128x64 .bf16) (k : FVec Ideal S5x131072x512 .bf16) (kn : FVec Ideal S5x1x512 .bf16)

/-- The masked scores, the new token's scores, their maximum and the sum of the exponentials, over what the operations
    after the region read. -/
def aS : FVec Ideal S5x1x128x131072 .f32 := masked (mask X3) (scores q (kv k X2) X1 (rope X2))
def aN : FVec Ideal S5x1x128 .f32 := scoreNew q (kvNew kn X5) X1 X6
def aM : FVec Ideal S5x1x128 .f32 := top (aS X2 X3 q X1 k) (aN X5 X6 q X1 kn)
def aD : FVec Ideal S5x1x128 .f32 := total (aS X2 X3 q X1 k) (aN X5 X6 q X1 kn) (aM X2 X5 X6 X3 q X1 k kn)

section
variable (h1 : V (main_v1 : DevRef τ sig) = q) (hk : V (main_v4_0 : DevRef τ sig) = k) (hn : V (main_v4_1 : DevRef τ sig) = kn)
  (a1 : V (main_arg1 : DevRef τ sig) = X1) (a2 : V (main_arg2 : DevRef τ sig) = X2) (a3 : V (main_arg3 : DevRef τ sig) = X3)
  (a5 : V (main_arg5 : DevRef τ sig) = X5) (a6 : V (main_arg6 : DevRef τ sig) = X6)
include h1 hk hn a1 a2 a3 a5 a6

/-- The output the operations leave. -/
theorem tail_out : StableHlo.after (List.flatten [hostOps1, hostOps1_1, hostOps1_2]) V (main_v76 : DevRef τ sig)
    = mixed (aS X2 X3 q X1 k) (aN X5 X6 q X1 kn) (aM X2 X5 X6 X3 q X1 k kn) (aD X2 X5 X6 X3 q X1 k kn) (kv k X2) (kvNew kn X5) := by
  rw [after_tail, after_v75, after_v39 _ (after_cst V), keep1_v15, keep1_v21, keep1_v31, after_v15, after_v21, after_v26, after_v31,
    after_v38, h1, hk, hn, a1, a2, a3, a5, a6]
  rfl

/-- The log-weight the operations leave. -/
theorem tail_lse : StableHlo.after (List.flatten [hostOps1, hostOps1_1, hostOps1_2]) V (main_v77 : DevRef τ sig)
    = logWeight (aM X2 X5 X6 X3 q X1 k kn) (aD X2 X5 X6 X3 q X1 k kn) X3 := by
  rw [after_tail, after_v76, after_v39 _ (after_cst V), keep1_v31, keep1_arg3, after_v26, after_v31, after_v38, after_arg3,
    h1, hk, hn, a1, a2, a3, a5, a6]
  rfl
end

end Cert.ReferenceIdeal.Value

end
-- ==== Proof.ReferenceRegion.lean ====
/-
  The reference's run at ideal values: its region copies the codes into numbers; its results are the operations' after it.
-/
module

public import proofs.«01_k».proof.Proof.ReferenceOps
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Cert.Mla

variable (m : (ℓ : Loc nD τ sig) → Buf (Elt Ideal) ℓ) (ρ : Dev nD → PrngReg) (c : Dev nD)

/-- The cache's codes, and the new token's: what the region reads. -/
def cacheCodes : FVec Ideal S5x131072x512 .fp8e4m3 := bitcastToFloat .fp8e4m3
  (extractStridedSlice S5x131072x512 ![0, 0, 0] (m ((c : Thread nD τ).loc main_arg2) : IVec S5x131072x656 8) slices_S5x131072x656_S5x131072x512_0_0_0)
def newCodes : FVec Ideal S5x1x512 .fp8e4m3 := bitcastToFloat .fp8e4m3 (m ((c : Thread nD τ).loc main_arg4) : IVec S5x1x512 8)

theorem entry_cacheCodes : V m c main_v3 = cacheCodes m c := by
  show StableHlo.after hostOps0 _ (main_v3 : DevRef τ sig) = _
  after_results
  rfl
theorem entry_newCodes : V m c main_v0 = newCodes m c := by
  show StableHlo.after hostOps0 _ (main_v0 : DevRef τ sig) = _
  after_results
  rfl

/-- Every window's one block is its whole array. -/
theorem emb0 (t : Fin cfg0.N) (y : S5x131072x512.Idx) : (((cfg0.win 0).blk t).view.emb y : S5x131072x512.Idx) = y :=
  funext fun a => Fin.ext (Pipeline.Window.rect_emb_val_of_index_zero (cfg0.win 0) t a
    (match a with | ⟨0, _⟩ => rfl | ⟨1, _⟩ => rfl | ⟨2, _⟩ => rfl) y)
theorem emb1 (t : Fin cfg0.N) (y : S5x1x512.Idx) : (((cfg0.win 1).blk t).view.emb y : S5x1x512.Idx) = y :=
  funext fun a => Fin.ext (Pipeline.Window.rect_emb_val_of_index_zero (cfg0.win 1) t a
    (match a with | ⟨0, _⟩ => rfl | ⟨1, _⟩ => rfl | ⟨2, _⟩ => rfl) y)
theorem emb2 (t : Fin cfg0.N) (y : S5x131072x512.Idx) : (((cfg0.win 2).blk t).view.emb y : S5x131072x512.Idx) = y :=
  funext fun a => Fin.ext (Pipeline.Window.rect_emb_val_of_index_zero (cfg0.win 2) t a
    (match a with | ⟨0, _⟩ => rfl | ⟨1, _⟩ => rfl | ⟨2, _⟩ => rfl) y)
theorem emb3 (t : Fin cfg0.N) (y : S5x1x512.Idx) : (((cfg0.win 3).blk t).view.emb y : S5x1x512.Idx) = y :=
  funext fun a => Fin.ext (Pipeline.Window.rect_emb_val_of_index_zero (cfg0.win 3) t a
    (match a with | ⟨0, _⟩ => rfl | ⟨1, _⟩ => rfl | ⟨2, _⟩ => rfl) y)

theorem blk_cacheCodes (t : Fin cfg0.N) : iblk m c 0 t = cacheCodes m c :=
  funext fun y => (congrArg (V m c main_v3) (emb0 t y)).trans (congrFun (entry_cacheCodes m c) y)
theorem blk_newCodes (t : Fin cfg0.N) : iblk m c 1 t = newCodes m c :=
  funext fun y => (congrArg (V m c main_v0) (emb1 t y)).trans (congrFun (entry_newCodes m c) y)

/-- The codes the region leaves, as numbers. -/
theorem final_codes : (dats m 0 c).arrAt 2 (cfgs 0).N = k0_pay1 (F := Ideal) (cacheCodes m c) := by
  refine (dats m 0 c).arrAt_eq_of_covers 2 _ (by decide +kernel) fun t hf y => ?_
  rw [emb2 t y]
  blk_simp
  rw [after0_2, blk_cacheCodes]
  frame_out

/-- The new token's codes the region leaves, as numbers. -/
theorem final_newCodes : (dats m 0 c).arrAt 3 (cfgs 0).N = k0_pay2 (F := Ideal) (newCodes m c) := by
  refine (dats m 0 c).arrAt_eq_of_covers 3 _ (by decide +kernel) fun t hf y => ?_
  rw [emb3 t y]
  blk_simp
  rw [after0_3, blk_newCodes]
  frame_out

/-- The buffers after the region. -/
def W : Valuation τ sig (Elt Ideal) := Pipeline.withArrays (cfgs 0).spec c (V0 m c) fun w => (dats m 0 c).arrAt w (cfgs 0).N

theorem W_rest (b : Ref sig .tc) (h : ∀ w, Pipeline.arrRef (cfgs 0).spec w ≠ b) : W m c (Proc.devRef .tc b) = V m c b :=
  Pipeline.withArrays_of_ne _ _ _ _ b h

theorem arr_inj : Function.Injective (Pipeline.arrRef (cfgs 0).spec) := by decide

theorem W_codes : W m c (main_v4_0 : DevRef τ sig) = k0_pay1 (F := Ideal) (cacheCodes m c) :=
  (Pipeline.withArrays_arr (cfgs 0).spec arr_inj c (V0 m c) (fun w => (dats m 0 c).arrAt w (cfgs 0).N) 2).trans (final_codes m c)
theorem W_newCodes : W m c (main_v4_1 : DevRef τ sig) = k0_pay2 (F := Ideal) (newCodes m c) :=
  (Pipeline.withArrays_arr (cfgs 0).spec arr_inj c (V0 m c) (fun w => (dats m 0 c).arrAt w (cfgs 0).N) 3).trans (final_newCodes m c)

/-- The queries by head. -/
def heads : FVec Ideal S5x1x128x512 .bf16 :=
  shapeCast S5x1x128x512 (m ((c : Thread nD τ).loc main_arg0) : FVec Ideal S5x1x65536 .bf16) shapeCasts_S5x1x65536_S5x1x128x512

theorem W_heads : W m c (main_v1 : DevRef τ sig) = heads m c := by
  refine (W_rest m c main_v1 (by decide)).trans ?_
  show StableHlo.after hostOps0 _ (main_v1 : DevRef τ sig) = _
  after_results
  rfl

/-- The arguments, as vectors. -/
def x1 : FVec Ideal S5x1x128x64 .bf16 := m ((c : Thread nD τ).loc main_arg1)
def x2 : IVec S5x131072x656 8 := m ((c : Thread nD τ).loc main_arg2)
def x3 : IVec S5 32 := m ((c : Thread nD τ).loc main_arg3)
def x5 : FVec Ideal S5x1x4 .f32 := m ((c : Thread nD τ).loc main_arg5)
def x6 : FVec Ideal S5x1x64 .bf16 := m ((c : Thread nD τ).loc main_arg6)
def ks : FVec Ideal S5x131072x512 .bf16 := k0_pay1 (F := Ideal) (cacheCodes m c)
def kns : FVec Ideal S5x1x512 .bf16 := k0_pay2 (F := Ideal) (newCodes m c)

/-- The results, as the operations compute them. -/
def outVec : FVec Ideal S5x128x512 .bf16 :=
  mixed (aS (x2 m c) (x3 m c) (heads m c) (x1 m c) (ks m c)) (aN (x5 m c) (x6 m c) (heads m c) (x1 m c) (kns m c))
    (aM (x2 m c) (x5 m c) (x6 m c) (x3 m c) (heads m c) (x1 m c) (ks m c) (kns m c))
    (aD (x2 m c) (x5 m c) (x6 m c) (x3 m c) (heads m c) (x1 m c) (ks m c) (kns m c))
    (kv (ks m c) (x2 m c)) (kvNew (kns m c) (x5 m c))
def lseVec : FVec Ideal S5x128x1 .f32 :=
  logWeight (aM (x2 m c) (x5 m c) (x6 m c) (x3 m c) (heads m c) (x1 m c) (ks m c) (kns m c))
    (aD (x2 m c) (x5 m c) (x6 m c) (x3 m c) (heads m c) (x1 m c) (ks m c) (kns m c)) (x3 m c)

theorem after_out : Pipeline.afterTail₀ cfgs (dats m) 0 (V0 m) [hostOps1, hostOps1_1, hostOps1_2] c main_v76 = outVec m c :=
  tail_out (W m c) (x2 m c) (x5 m c) (x6 m c) (x3 m c) (heads m c) (x1 m c) (ks m c) (kns m c) (W_heads m c) (W_codes m c) (W_newCodes m c)
    ((W_rest m c main_arg1 (by decide)).trans (V_main_arg1 m c)) ((W_rest m c main_arg2 (by decide)).trans (V_main_arg2 m c))
    ((W_rest m c main_arg3 (by decide)).trans (V_main_arg3 m c)) ((W_rest m c main_arg5 (by decide)).trans (V_main_arg5 m c))
    ((W_rest m c main_arg6 (by decide)).trans (V_main_arg6 m c))
theorem after_lse : Pipeline.afterTail₀ cfgs (dats m) 0 (V0 m) [hostOps1, hostOps1_1, hostOps1_2] c main_v77 = lseVec m c :=
  tail_lse (W m c) (x2 m c) (x5 m c) (x6 m c) (x3 m c) (heads m c) (x1 m c) (ks m c) (kns m c) (W_heads m c) (W_codes m c) (W_newCodes m c)
    ((W_rest m c main_arg1 (by decide)).trans (V_main_arg1 m c)) ((W_rest m c main_arg2 (by decide)).trans (V_main_arg2 m c))
    ((W_rest m c main_arg3 (by decide)).trans (V_main_arg3 m c)) ((W_rest m c main_arg5 (by decide)).trans (V_main_arg5 m c))
    ((W_rest m c main_arg6 (by decide)).trans (V_main_arg6 m c))

/-- The run: the results hold what the operations compute. -/
theorem run_vec : θ_run defs (onTc (τ := τ) (main (F := Ideal))) ⟨m, fun _ => 0, ρ⟩ fun r => ∀ c : Dev nD,
    r.2.mem ((c : Thread nD τ).loc main_v76) = outVec m c ∧ r.2.mem ((c : Thread nD τ).loc main_v77) = lseVec m c := by
  run_from Gen.run_main m ρ
  · exact after_out m c
  · exact after_lse m c

end Cert.ReferenceIdeal.Value

end
-- ==== Proof.ReferenceValue.lean ====
/-
  The reference's operations read at an index, at ideal values: its results are the attention's output and log-weight.
-/
module

public import proofs.«01_k».proof.Proof.ReferenceRegion
public import Idealize.ShloMosaic.Lib.Pointwise
public import Idealize.ShloMosaic.Lib.IdealHost
public import Idealize.ShloMosaic.Lib.BitcastConvert

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Mla

/-- Four bytes on a last axis as one word, byte 0 the lowest. -/
theorem wide4 {n0 n1 n2 : ℕ} (x : IVec ⟨4, ![n0, n1, n2, 4]⟩ 8) (h : Shape.SplitsWords ⟨3, ![n0, n1, n2]⟩ 32 ⟨4, ![n0, n1, n2, 4]⟩ 8)
    (i : Fin n0) (j : Fin n1) (k : Fin n2) : Host.bitcastConvertWiden ⟨3, ![n0, n1, n2]⟩ 32 x h (ix3 i j k) = word4 fun e => x (ix4 i j k e) := by
  refine BitVec.eq_of_getLsbD_eq fun q hq => ?_
  rw [Host.bitcastConvertWiden_getLsbD _ _ _ _ _ q hq, word4_getLsbD _ q hq]
  refine congrArg (fun y : (⟨4, ![n0, n1, n2, 4]⟩ : Shape).Idx => (x y).getLsbD (q % 8)) (funext fun a => ?_)
  match a with
  | ⟨0, _⟩ => exact Fin.ext (Shape.SplitsWords.snoc_apply_val_of_lt h _ _ (0 : Fin 4) (by show 0 < 3; omega))
  | ⟨1, _⟩ => exact Fin.ext (Shape.SplitsWords.snoc_apply_val_of_lt h _ _ (1 : Fin 4) (by show 1 < 3; omega))
  | ⟨2, _⟩ => exact Fin.ext (Shape.SplitsWords.snoc_apply_val_of_lt h _ _ (2 : Fin 4) (by show 2 < 3; omega))
  | ⟨3, _⟩ => exact Shape.SplitsWords.snoc_axis h _ _

/-- Two bytes on a last axis as one half word. -/
theorem wide2 {n0 n1 n2 : ℕ} (x : IVec ⟨4, ![n0, n1, n2, 2]⟩ 8) (h : Shape.SplitsWords ⟨3, ![n0, n1, n2]⟩ 16 ⟨4, ![n0, n1, n2, 2]⟩ 8)
    (i : Fin n0) (j : Fin n1) (k : Fin n2) : Host.bitcastConvertWiden ⟨3, ![n0, n1, n2]⟩ 16 x h (ix3 i j k) = half2 fun e => x (ix4 i j k e) := by
  refine BitVec.eq_of_getLsbD_eq fun q hq => ?_
  rw [Host.bitcastConvertWiden_getLsbD _ _ _ _ _ q hq, half2_getLsbD _ q hq]
  refine congrArg (fun y : (⟨4, ![n0, n1, n2, 2]⟩ : Shape).Idx => (x y).getLsbD (q % 8)) (funext fun a => ?_)
  match a with
  | ⟨0, _⟩ => exact Fin.ext (Shape.SplitsWords.snoc_apply_val_of_lt h _ _ (0 : Fin 4) (by show 0 < 3; omega))
  | ⟨1, _⟩ => exact Fin.ext (Shape.SplitsWords.snoc_apply_val_of_lt h _ _ (1 : Fin 4) (by show 1 < 3; omega))
  | ⟨2, _⟩ => exact Fin.ext (Shape.SplitsWords.snoc_apply_val_of_lt h _ _ (2 : Fin 4) (by show 2 < 3; omega))
  | ⟨3, _⟩ => exact Shape.SplitsWords.snoc_axis h _ _

/-- The greatest element along a last axis. -/
theorem reduceMax {n0 n1 n2 n3 : ℕ} (x : FVec Ideal ⟨4, ![n0, n1, n2, n3]⟩ .f32) (init : FVec Ideal S_ .f32)
    (h : Shape.ReducesTo ⟨4, ![n0, n1, n2, n3]⟩ [3] ⟨3, ![n0, n1, n2]⟩) (hu : 0 < S_.numel) (hi : init (Shape.Idx.first hu) = ⊥)
    (i : Fin n0) (j : Fin n1) (k : Fin n2) :
    Host.reduce FloatOps.maximumf x init h hu (ix3 i j k) = Finset.univ.fold max ⊥ fun l : Fin n3 => x (ix4 i j k l) := by
  refine (Host.reduce_eq_fold (α := EReal) max x init h hu (ix3 i j k)).trans ?_
  rw [hi]
  exact h.fold_fiber_r4_a3 (ix3 i j k) max ⊥ x

section
variable (b : Fin 5) (h : Fin 128) (t : Fin 131072) (k : Fin 512) (r : Fin 64)
  (X2 : IVec S5x131072x656 8)

theorem scale_at (e : Fin 4) :
    Host.bitcastConvertWiden S5x131072x4 32
          (shapeCast S5x131072x4x4
            (extractStridedSlice S5x131072x16 ![0, 0, 512] X2 slices_S5x131072x656_S5x131072x16_0_0_512)
            shapeCasts_S5x131072x16_S5x131072x4x4)
          splits_S5x131072x4_w32_S5x131072x4x4_w8 (ix3 b t e) = word4 fun i => X2 (ix3 b t ⟨512 + 4 * e.val + i.val, by omega⟩) := by
  refine (wide4 _ _ b t e).trans (congrArg word4 (funext fun i => ?_))
  pointwise
  exact congrArg X2 (congrArg (ix3 b t) (Fin.ext (by show _ + _ = _; dsimp only; omega)))

theorem kv_at (a3 : FVec Ideal S5x131072x512 .bf16) : kv a3 X2 (ix3 b t k) = a3 (ix3 b t k) * Rec.scale (fun i => X2 (ix3 b t i)) ⟨k.val / 128, by omega⟩ := by
  pointwise [kv]
  rw [scale_at]
  rfl

theorem rope_at : rope X2 (ix3 b t r) = Rec.rope (fun i => X2 (ix3 b t i)) r := by
  pointwise [rope]
  refine congrArg (Ideal.ofBits .bf16) ((wide2 _ _ b t r).trans (congrArg half2 (funext fun i => ?_)))
  pointwise
  exact congrArg X2 (congrArg (ix3 b t) (Fin.ext (by show _ + _ = _; dsimp only; omega)))

theorem kvNew_at (k1 : FVec Ideal S5x1x512 .bf16) (X5 : FVec Ideal S5x1x4 .f32) :
    kvNew k1 X5 (ix3 b 0 k) = k1 (ix3 b 0 k) * X5 (ix3 b 0 ⟨k.val / 128, by omega⟩) := by
  pointwise [kvNew]

theorem scores_at (q : FVec Ideal S5x1x128x512 .bf16) (a3 : FVec Ideal S5x131072x512 .bf16) (x1 : FVec Ideal S5x1x128x64 .bf16)
    (ro : FVec Ideal S5x131072x64 .bf16) : scores q a3 x1 ro (ix4 b 0 h t)
    = score (fun x => q (ix4 b 0 h x)) (fun x => x1 (ix4 b 0 h x)) (fun x => a3 (ix3 b t x)) (fun x => ro (ix3 b t x)) := by
  pointwise [scores]
  rfl

theorem scoreNew_at (q : FVec Ideal S5x1x128x512 .bf16) (k1 : FVec Ideal S5x1x512 .bf16) (x1 : FVec Ideal S5x1x128x64 .bf16)
    (ro : FVec Ideal S5x1x64 .bf16) : scoreNew q k1 x1 ro (ix3 b 0 h)
    = score (fun x => q (ix4 b 0 h x)) (fun x => x1 (ix4 b 0 h x)) (fun x => k1 (ix3 b 0 x)) (fun x => ro (ix3 b 0 x)) := by
  pointwise [scoreNew]
  rfl

theorem masked_at (X3 : IVec S5 32) (v : FVec Ideal S5x1x128x131072 .f32) :
    masked (mask X3) v (ix4 b 0 h t) = if (t.val : ℤ) < (X3 (ix1 b)).toInt then v (ix4 b 0 h t) else ⊥ := by
  pointwise [masked, mask]
  unfold Scalar.select
  have e : IntOp.cmpi .slt (BitVec.ofNat 32 t.val) (X3 (ix1 b)) = 1#1 ↔ (t.val : ℤ) < (X3 (ix1 b)).toInt := by
    rw [IntOp.cmpi_slt]
    have : (BitVec.ofNat 32 t.val).toInt = t.val := by
      rw [BitVec.toInt_eq_toNat_of_lt (by rw [BitVec.toNat_ofNat]; omega), BitVec.toNat_ofNat]; omega
    rw [this]
  rw [neg_inf_f32]
  exact if_congr e rfl rfl

theorem init_bot : (constant S_ .f32 0xFF800000#32 : FVec Ideal S_ .f32) (Shape.Idx.first h_S_) = ⊥ := by
  pointwise
  exact neg_inf_f32

theorem greatest_at (v : FVec Ideal S5x1x128x131072 .f32) :
    Host.reduce FloatOps.maximumf v (constant S_ .f32 0xFF800000#32) reducesTo_S5x1x128x131072_S5x1x128_d3 h_S_ (ix3 b 0 h)
      = Finset.univ.fold max ⊥ fun t : Fin 131072 => v (ix4 b 0 h t) :=
  reduceMax v (constant S_ .f32 0xFF800000#32) reducesTo_S5x1x128x131072_S5x1x128_d3 h_S_ init_bot b 0 h

theorem top_eq (v : FVec Ideal S5x1x128x131072 .f32) (w : FVec Ideal S5x1x128 .f32) : top v w
    = maximumf (Host.reduce FloatOps.maximumf v (constant S_ .f32 0xFF800000#32) reducesTo_S5x1x128x131072_S5x1x128_d3 h_S_) w := rfl

theorem max_at (z w : FVec Ideal S5x1x128 .f32) : maximumf z w (ix3 b 0 h) = max (z (ix3 b 0 h)) (w (ix3 b 0 h)) := rfl

theorem top_at (v : FVec Ideal S5x1x128x131072 .f32) (w : FVec Ideal S5x1x128 .f32) :
    top v w (ix3 b 0 h) = max (Finset.univ.fold max ⊥ fun t : Fin 131072 => v (ix4 b 0 h t)) (w (ix3 b 0 h)) :=
  (congrFun (top_eq v w) _).trans ((max_at b h _ w).trans (congrArg (max · (w (ix3 b 0 h))) (greatest_at b h v)))

theorem total_at (v : FVec Ideal S5x1x128x131072 .f32) (w m : FVec Ideal S5x1x128 .f32) : total v w m (ix3 b 0 h)
    = ∑ t : Fin 131072, Ideal.exp (v (ix4 b 0 h t) - m (ix3 b 0 h)) + Ideal.exp (w (ix3 b 0 h) - m (ix3 b 0 h)) := by
  pointwise [total]

theorem mixed_at (v : FVec Ideal S5x1x128x131072 .f32) (w m d : FVec Ideal S5x1x128 .f32) (x : FVec Ideal S5x131072x512 .bf16)
    (y : FVec Ideal S5x1x512 .bf16) : mixed v w m d x y (ix3 b h k)
    = ∑ t : Fin 131072, Ideal.div (Ideal.exp (v (ix4 b 0 h t) - m (ix3 b 0 h))) (d (ix3 b 0 h)) * x (ix3 b t k)
      + Ideal.div (Ideal.exp (w (ix3 b 0 h) - m (ix3 b 0 h))) (d (ix3 b 0 h)) * y (ix3 b 0 k) := by
  pointwise [mixed]

theorem logWeight_at (m d : FVec Ideal S5x1x128 .f32) (X3 : IVec S5 32) : logWeight m d X3 (ix3 b h 0)
    = m (ix3 b 0 h) + Ideal.log (d (ix3 b 0 h)) - Ideal.log ((((X3 (ix1 b)).toInt : ℝ) : EReal) + 1) := by
  pointwise [logWeight]
  rfl

end

end Cert.ReferenceIdeal.Value

end
-- ==== Proof.ReferenceFinal.lean ====
/-
  The reference's results at ideal values: the attention's output and log-weight of every sequence and head.
-/
module

public import proofs.«01_k».proof.Proof.ReferenceValue

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Mla

variable (m : (ℓ : Loc nD τ sig) → Buf (Elt Ideal) ℓ) (ρ : Dev nD → PrngReg) (c : Dev nD)

/-- What the attention reads of the arguments. -/
def inputs : Inputs := .of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))

variable (b : Fin 5) (h : Fin 128) (t : Fin 131072) (k : Fin 512) (r : Fin 64)

theorem ks_at : ks m c (ix3 b t k) = Ideal.ofBits .fp8e4m3 ((inputs m c).cache b t ⟨k.val, by omega⟩) := by
  pointwise [ks, k0_pay1, cacheCodes]
  rfl

theorem kns_at : kns m c (ix3 b 0 k) = Ideal.ofBits .fp8e4m3 (m ((c : Thread nD τ).loc main_arg4) (ix3 b 0 k)) := by
  pointwise [kns, k0_pay2, newCodes]

theorem heads_at : heads m c (ix4 b 0 h k) = (inputs m c).q b h k := by
  pointwise [heads]
  rfl

theorem latent_at : kv (ks m c) (x2 m c) (ix3 b t k) = ((inputs m c).cache b t).latent k := by
  rw [kv_at, ks_at]
  rfl

theorem ropes_at : rope (x2 m c) (ix3 b t r) = ((inputs m c).cache b t).rope r := rope_at b t r (x2 m c)

theorem kn_at : kvNew (kns m c) (x5 m c) (ix3 b 0 k) = (inputs m c).kn b k := by
  rw [kvNew_at, kns_at]
  rfl

theorem aN_at : aN (x5 m c) (x6 m c) (heads m c) (x1 m c) (kns m c) (ix3 b 0 h) = (inputs m c).sn b h := by
  unfold aN
  rw [scoreNew_at]
  simp only [heads_at, kn_at]
  rfl

theorem aS_at : aS (x2 m c) (x3 m c) (heads m c) (x1 m c) (ks m c) (ix4 b 0 h t)
    = if (t.val : ℤ) < ((inputs m c).len b).toInt then (inputs m c).s b h t else ⊥ := by
  unfold aS
  rw [masked_at, scores_at]
  simp only [heads_at, latent_at, ropes_at]
  rfl

variable (hI : (inputs m c).Good)

include hI

theorem aS_scores : ((inputs m c).row b h).Scores 0 fun t : Fin 131072 => aS (x2 m c) (x3 m c) (heads m c) (x1 m c) (ks m c) (ix4 b 0 h t) := by
  intro t
  dsimp only
  rw [aS_at, Nat.zero_add]
  by_cases hv : (t.val : ℤ) < ((inputs m c).len b).toInt
  · rw [if_pos hv, if_pos (show (t.val : ℤ) < ((inputs m c).row b h).n from hv)]
    exact hI.s_eq b h t hv
  · rw [if_neg hv, if_neg (show ¬ (t.val : ℤ) < ((inputs m c).row b h).n from hv)]

theorem kv_values : ((inputs m c).row b h).Values 0 fun k (t : Fin 131072) => kv (ks m c) (x2 m c) (ix3 b t k) := by
  intro t k hv
  dsimp only
  rw [latent_at, Nat.zero_add]
  rw [Nat.zero_add] at hv
  exact hI.latent_eq b h t hv k

theorem aM_at : aM (x2 m c) (x5 m c) (x6 m c) (x3 m c) (heads m c) (x1 m c) (ks m c) (kns m c) (ix3 b 0 h)
    = max (Finset.univ.fold max ⊥ fun t : Fin 131072 => aS (x2 m c) (x3 m c) (heads m c) (x1 m c) (ks m c) (ix4 b 0 h t))
      (((inputs m c).row b h).σ : EReal) := by
  unfold aM
  rw [top_at, aN_at, hI.sn_eq]

theorem aD_at : aD (x2 m c) (x5 m c) (x6 m c) (x3 m c) (heads m c) (x1 m c) (ks m c) (kns m c) (ix3 b 0 h)
    = ∑ t : Fin 131072, Ideal.exp (aS (x2 m c) (x3 m c) (heads m c) (x1 m c) (ks m c) (ix4 b 0 h t)
        - aM (x2 m c) (x5 m c) (x6 m c) (x3 m c) (heads m c) (x1 m c) (ks m c) (kns m c) (ix3 b 0 h))
      + Ideal.exp ((((inputs m c).row b h).σ : EReal)
        - aM (x2 m c) (x5 m c) (x6 m c) (x3 m c) (heads m c) (x1 m c) (ks m c) (kns m c) (ix3 b 0 h)) := by
  unfold aD
  rw [total_at, aN_at, hI.sn_eq]

theorem out_at : outVec m c (ix3 b h k) = (inputs m c).out b h k := by
  unfold outVec
  rw [mixed_at, aN_at, hI.sn_eq, kn_at, hI.kn_eq b h]
  exact Row.plain_mix (aS_scores m c b h hI) (kv_values m c b h hI) _ _ (aM_at m c b h hI) (aD_at m c b h hI) k

theorem lse_at : lseVec m c (ix3 b h 0) = (inputs m c).lse b h := by
  unfold lseVec
  rw [logWeight_at, Row.plain_logWeight (aS_scores m c b h hI) _ _ (aM_at m c b h hI) (aD_at m c b h hI)]
  rfl

theorem outVec_eq : outVec m c = fun i => (inputs m c).out (i 0) (i 1) (i 2) := by
  funext i
  have e : i = ix3 (i 0) (i 1) (i 2) := funext fun a => match a with | ⟨0, _⟩ => rfl | ⟨1, _⟩ => rfl | ⟨2, _⟩ => rfl
  exact (congrArg (outVec m c) e).trans (out_at m c (i 0) (i 1) (i 2) hI)

theorem lseVec_eq : lseVec m c = fun i => (inputs m c).lse (i 0) (i 1) := by
  funext i
  have e : i = ix3 (i 0) (i 1) 0 := funext fun a => match a with | ⟨0, _⟩ => rfl | ⟨1, _⟩ => rfl | ⟨2, _⟩ => Fin.ext (by have := (i 2).isLt; show (i 2).val = 0; exact Nat.lt_one_iff.mp this)
  exact (congrArg (lseVec m c) e).trans (lse_at m c (i 0) (i 1) hI)

omit hI

/-- The run: on inputs as assumed, the two results are the attention's output and log-weight. -/
theorem run (hI : ∀ c, (inputs m c).Good) : θ_run defs (onTc (τ := τ) (main (F := Ideal))) ⟨m, fun _ => 0, ρ⟩ fun r => ∀ c : Dev nD,
      r.2.mem ((c : Thread nD τ).loc main_v76) = (fun i => (inputs m c).out (i 0) (i 1) (i 2) : Vec Ideal S5x128x512 .bf16)
      ∧ r.2.mem ((c : Thread nD τ).loc main_v77) = (fun i => (inputs m c).lse (i 0) (i 1) : Vec Ideal S5x128x1 .f32) :=
  (θ_run defs _ _).mono (fun _ h c => ⟨(h c).1.trans (outVec_eq m c (hI c)), (h c).2.trans (lseVec_eq m c (hI c))⟩) (run_vec m ρ)

end Cert.ReferenceIdeal.Value

end
-- ==== Proof.Finite.lean ====
/-
  What the precondition says of the inputs: every number the attention reads is real, and no length is near the end of
  the 32-bit range.
-/
module

public import proofs.«01_k».proof.Proof.Inputs
public import proofs.«01_k».proof.Proof.ReferenceValue
public import proofs.«01_k».proof.Proof.Gen.Pre_cache_is_finite
public import Idealize.ShloMosaic.Lib.WordCmp

@[expose] public section

set_option maxRecDepth 16384

noncomputable section

open Idealize.ShloMosaic

namespace Cert.Mla

/-- A number whose magnitude is below `∞` is real. -/
theorem real_of_below {x y : EReal} (hy : y = ⊤) (h : Ideal.cmp .olt (max x (-x)) y = 1#1) : ∃ r : ℝ, x = r := by
  subst hy
  have h' : max x (-x) < ⊤ := by
    by_contra hn
    have e : Ideal.cmp .olt (max x (-x)) ⊤ = BitVec.ofBool (decide (max x (-x) < ⊤)) := rfl
    rw [e, decide_eq_false hn] at h
    exact absurd h (by decide)
  refine ⟨x.toReal, (EReal.coe_toReal ?_ ?_).symm⟩
  · rintro rfl; exact absurd h' (by simp)
  · rintro rfl; exact absurd h' (by simp)

theorem of_and {x y : BitVec 1} (h : IntOp.andi x y = 1#1) : x = 1#1 ∧ y = 1#1 := by
  revert x y; decide

theorem of_or {x y : BitVec 1} (h : IntOp.ori x y = 1#1) : x = 1#1 ∨ y = 1#1 := by
  revert x y; decide

theorem of_ne {w : ℕ} {x y : BitVec w} (h : IntOp.cmpi .ne x y = 1#1) : x ≠ y := by
  rintro rfl
  rw [WordCmp.cmpi_ne_eq] at h
  simp at h

theorem of_sle {x y : BitVec 32} (h : IntOp.cmpi .sle x y = 1#1) : x.toInt ≤ y.toInt := by
  by_contra hn
  rw [WordCmp.cmpi_sle_eq, decide_eq_false hn] at h
  exact absurd h (by decide)

theorem of_sge {x y : BitVec 32} (h : IntOp.cmpi .sge x y = 1#1) : y.toInt ≤ x.toInt := by
  by_contra hn
  rw [WordCmp.cmpi_sge_eq, decide_eq_false hn] at h
  exact absurd h (by decide)

/-- A token below the length is not past it. -/
theorem not_unused (t : Fin 131072) (n : BitVec 32) (h : (t.val : ℤ) < n.toInt) : ¬IntOp.cmpi .sge (BitVec.ofNat 32 t.val) n = 1#1 := by
  intro hg
  have := of_sge hg
  have e : (BitVec.ofNat 32 t.val).toInt = t.val := by
    rw [BitVec.toInt_eq_toNat_of_lt (by rw [BitVec.toNat_ofNat]; omega), BitVec.toNat_ofNat]; omega
  omega

open Cert.Pre_cache_is_finite

section
variable (X0 : FVec Ideal ⟨3, ![5, 1, 65536]⟩ .bf16) (X1 : FVec Ideal ⟨4, ![5, 1, 128, 64]⟩ .bf16) (X2 : IVec ⟨3, ![5, 131072, 656]⟩ 8)
  (X3 : IVec ⟨1, ![5]⟩ 32) (X4 : IVec ⟨3, ![5, 1, 512]⟩ 8) (X5 : FVec Ideal ⟨3, ![5, 1, 4]⟩ .f32) (X6 : FVec Ideal ⟨3, ![5, 1, 64]⟩ .bf16)
  (b : Fin 5) (t : Fin 131072)

/-- The precondition's entry for a code of the cache … -/
theorem pre_code (k : Fin 512) : (fn X0 X1 X2 X3 X4 X5 X6).2.2.2.2.2.2.1 (ix3 b t k) = IntOp.ori (IntOp.cmpi .sge (BitVec.ofNat 32 t.val) (X3 (ix1 b)))
    (IntOp.andi (IntOp.cmpi .ne (X2 (ix3 b t ⟨k.val, by omega⟩)) 127#8) (IntOp.cmpi .ne (X2 (ix3 b t ⟨k.val, by omega⟩)) 255#8)) := by
  unfold fn fn_part1 fn_part2
  dsimp only
  pointwise

/-- … for a scale … -/
theorem pre_scale (k : Fin 4) : (fn X0 X1 X2 X3 X4 X5 X6).2.2.2.2.2.2.2.1 (ix3 b t k) = IntOp.ori (IntOp.cmpi .sge (BitVec.ofNat 32 t.val) (X3 (ix1 b)))
    (Ideal.cmp .olt (max (Rec.scale (fun i => X2 (ix3 b t i)) k) (-Rec.scale (fun i => X2 (ix3 b t i)) k)) (Ideal.ofBits .f32 0x7F800000#32)) := by
  unfold fn fn_part1 fn_part2
  dsimp only
  pointwise
  unfold Rec.scale
  rw [← Cert.ReferenceIdeal.Value.scale_at b t X2 k]
  rfl

/-- … and for a rotary entry. -/
theorem pre_rope (k : Fin 64) : (fn X0 X1 X2 X3 X4 X5 X6).2.2.2.2.2.2.2.2 (ix3 b t k) = IntOp.ori (IntOp.cmpi .sge (BitVec.ofNat 32 t.val) (X3 (ix1 b)))
    (Ideal.cmp .olt (max (Rec.rope (fun i => X2 (ix3 b t i)) k) (-Rec.rope (fun i => X2 (ix3 b t i)) k)) (Ideal.ofBits .bf16 0x7F80#16)) := by
  unfold fn fn_part1 fn_part2
  dsimp only
  pointwise
  rw [← Cert.ReferenceIdeal.Value.rope_at b t k X2]
  rfl

/-- The precondition, read. -/
theorem good_of_pre
    (h0 : (fn X0 X1 X2 X3 X4 X5 X6).1 = fun _ => 1#1)
    (h1 : (fn X0 X1 X2 X3 X4 X5 X6).2.1 = fun _ => 1#1)
    (h4 : (fn X0 X1 X2 X3 X4 X5 X6).2.2.1 = fun _ => 1#1)
    (h5 : (fn X0 X1 X2 X3 X4 X5 X6).2.2.2.1 = fun _ => 1#1)
    (h6 : (fn X0 X1 X2 X3 X4 X5 X6).2.2.2.2.1 = fun _ => 1#1)
    (h3 : (fn X0 X1 X2 X3 X4 X5 X6).2.2.2.2.2.1 = fun _ => 1#1)
    (hc : (fn X0 X1 X2 X3 X4 X5 X6).2.2.2.2.2.2.1 = fun _ => 1#1)
    (hs : (fn X0 X1 X2 X3 X4 X5 X6).2.2.2.2.2.2.2.1 = fun _ => 1#1)
    (hr : (fn X0 X1 X2 X3 X4 X5 X6).2.2.2.2.2.2.2.2 = fun _ => 1#1) :
    (Inputs.of X0 X1 X2 X3 X4 X5 X6).Good := by
  have code : ∀ (b : Fin 5) (k : Fin 512), ∃ r : ℝ, Ideal.ofBits .fp8e4m3 (X4 (ix3 b 0 k)) = r := fun b k => by
    have h := congrFun h4 (ix3 b 0 k)
    have h' := of_and (x := IntOp.cmpi .ne (X4 (ix3 b 0 k)) 127#8) (y := IntOp.cmpi .ne (X4 (ix3 b 0 k)) 255#8) h
    exact code_real _ (of_ne h'.1) (of_ne h'.2)
  have scaleN : ∀ (b : Fin 5) (k : Fin 4), ∃ r : ℝ, X5 (ix3 b 0 k) = r := fun b k => real_of_below pos_inf_f32 (congrFun h5 (ix3 b 0 k))
  have mul : ∀ {x y : EReal}, (∃ r : ℝ, x = r) → (∃ r : ℝ, y = r) → ∃ r : ℝ, x * y = r := by
    rintro _ _ ⟨x, rfl⟩ ⟨y, rfl⟩; exact ⟨x * y, (EReal.coe_mul x y).symm⟩
  refine ⟨fun b h k => ?_, fun b h k => ?_, fun b k => ?_, fun b r => ?_, fun b t ht k => ?_, fun b t ht r => ?_, fun b => ?_⟩
  · exact real_of_below pos_inf_bf16 (congrFun h0 (ix3 b 0 ⟨h.val * 512 + k.val, by omega⟩))
  · exact real_of_below pos_inf_bf16 (congrFun h1 (ix4 b 0 h k))
  · exact mul (code b k) (scaleN b _)
  · exact real_of_below pos_inf_bf16 (congrFun h6 (ix3 b 0 r))
  · have hu := not_unused t _ ht
    have h := of_and ((of_or ((pre_code X0 X1 X2 X3 X4 X5 X6 b t k).symm.trans (congrFun hc (ix3 b t k)))).resolve_left hu)
    exact mul (code_real _ (of_ne h.1) (of_ne h.2))
      (real_of_below pos_inf_f32 ((of_or ((pre_scale X0 X1 X2 X3 X4 X5 X6 b t _).symm.trans (congrFun hs (ix3 b t _)))).resolve_left hu))
  · have hu := not_unused t _ ht
    exact real_of_below pos_inf_bf16 ((of_or ((pre_rope X0 X1 X2 X3 X4 X5 X6 b t r).symm.trans (congrFun hr (ix3 b t r)))).resolve_left hu)
  · have h := of_sle (y := 2147481600#32) (congrFun h3 (ix1 b))
    exact h.trans (by decide)

end

end Cert.Mla

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_cache_is_finite
public import proofs.«01_k».proof.Proof.OkKernel
public import proofs.«01_k».proof.Proof.KernelFinal
public import proofs.«01_k».proof.Proof.ReferenceFinal
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The two programs read the same inputs off agreeing memories. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.inputs m' c = Cert.KernelIdeal.Value.inputs m c := by
  obtain ⟨h0, h1, h2, h3, h4, h5, h6⟩ := h
  unfold Cert.ReferenceIdeal.Value.inputs Cert.KernelIdeal.Value.inputs
  rw [h0, h1, h2, h3, h4, h5, h6]

/-- Kernel and reference end with the same output and log-weight: both are the attention's of the inputs. -/
theorem algebraic : Cert.algebraic_KernelIdeal_ReferenceIdeal_pre_cache_is_finite (hKernelIdeal := Cert.KernelIdeal.Gen.facts)
    (hReferenceIdeal := Cert.ReferenceIdeal.Gen.facts) (hPre_cache_is_finite := Cert.Pre_cache_is_finite.Gen.facts) := by
  intro m g m' g' hpre hagree
  have hI : ∀ c, (Cert.KernelIdeal.Value.inputs m c).Good := fun c => by
    obtain ⟨h0, h1, h4, h5, h6, h3, hc, hs, hr⟩ := hpre c
    exact Cert.Mla.good_of_pre _ _ _ _ _ _ _ h0 h1 h4 h5 h6 h3 hc hs hr
  have hE : ∀ c, Cert.ReferenceIdeal.Value.inputs m' c = Cert.KernelIdeal.Value.inputs m c := fun c => inputs_eq m m' c (hagree c)
  have hO : Cert.KernelIdeal.Gen.Ok m := Cert.KernelIdeal.ok _
  refine ⟨fun c => Cert.KernelIdeal.Value.outBuf (Cert.KernelIdeal.Value.inputs m c), fun c => Cert.KernelIdeal.Value.lseBuf (Cert.KernelIdeal.Value.inputs m c), ?_, ?_⟩
  · exact θ_run_mono (θ_run_and (Cert.KernelIdeal.Value.run m g hO hI) (Cert.KernelIdeal.Gen.unchanged m g hO))
      fun r h c => ⟨(h.1 c).1, (h.1 c).2, h.2 c⟩
  · refine θ_run_mono (θ_run_and (Cert.ReferenceIdeal.Value.run m' g' fun c => (hE c).symm ▸ hI c) (Cert.ReferenceIdeal.Gen.unchanged m' g'))
      fun r h c => ⟨(h.1 c).1.trans ?_, (h.1 c).2.trans ?_, h.2 c⟩
    · rw [hE c]; rfl
    · rw [hE c]; rfl

theorem claim : Cert.Claim := ⟨Cert.Kernel.Gen.facts, Cert.KernelIdeal.Gen.facts, Cert.ReferenceIdeal.Gen.facts, Cert.Pre_cache_is_finite.Gen.facts,
  fun m g _ => Cert.Kernel.Gen.frame m g (Cert.Kernel.ok _),
  fun m g _ => Cert.KernelIdeal.Gen.frame m g (Cert.KernelIdeal.ok _),
  fun m g _ => Cert.KernelIdeal.Gen.frame m g (Cert.KernelIdeal.ok _),
  fun m g _ => Cert.ReferenceIdeal.Gen.frame m g,
  fun m g _ => Cert.ReferenceIdeal.Gen.frame m g,
  trivial, algebraic⟩

end Cert.Proof

end
